-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S3x4096x8192 : Shape := ⟨3, ![3, 4096, 8192]⟩
abbrev S32768x8192 : Shape := ⟨2, ![32768, 8192]⟩
abbrev S32768 : Shape := ⟨1, ![32768]⟩
abbrev S_ : Shape := ⟨0, ![]⟩

class Facts : Prop where
  bitsLt_bf16_f32 : FTy.bits .bf16 < FTy.bits .f32
  reducesTo_S3x4096x8192_S_d0_1_2 : S3x4096x8192.ReducesTo [0, 1, 2] S_
  h_S_ : 0 < S_.numel

variable [Facts]

def fn {F : FTy → Type} [FloatOps F] (main_arg0 : FVec F S3x4096x8192 .bf16) (main_arg1 : FVec F S32768x8192 .fp8e4m3) (main_arg2 : FVec F S32768 .f32) : IVec S_ 1 :=
  let main_v0 : FVec F S3x4096x8192 .f32 := (extf .f32 · bitsLt_bf16_f32) main_arg0
  let main_v1 : FVec F S3x4096x8192 .f32 := Host.absf main_v0
  let main_cst : FVec F S_ .f32 := constant S_ .f32 0xFF800000#32
  let main_v2 : FVec F S_ .f32 := (fun x v => Host.reduce FloatOps.maximumf x v reducesTo_S3x4096x8192_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v2 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  main_v8
-- ==== Kernel.lean ====
abbrev S3x4096x8192 : Shape := ⟨3, ![3, 4096, 8192]⟩
abbrev S32768x8192 : Shape := ⟨2, ![32768, 8192]⟩
abbrev S32768 : Shape := ⟨1, ![32768]⟩
abbrev S12288x8192 : Shape := ⟨2, ![12288, 8192]⟩
abbrev S1x32768 : Shape := ⟨2, ![1, 32768]⟩
abbrev S8x128 : Shape := ⟨2, ![8, 128]⟩
abbrev S256x8192 : Shape := ⟨2, ![256, 8192]⟩
abbrev S8192 : Shape := ⟨1, ![8192]⟩
abbrev S1x8192 : Shape := ⟨2, ![1, 8192]⟩
abbrev S1 : Shape := ⟨1, ![1]⟩
abbrev S1x1 : Shape := ⟨2, ![1, 1]⟩
abbrev S12288x32768 : Shape := ⟨2, ![12288, 32768]⟩
abbrev S1024x8192 : Shape := ⟨2, ![1024, 8192]⟩
abbrev S1x1024 : Shape := ⟨2, ![1, 1024]⟩
abbrev S1024x1024 : Shape := ⟨2, ![1024, 1024]⟩
abbrev S3x4096x32768 : Shape := ⟨3, ![3, 4096, 32768]⟩
abbrev S_ : Shape := ⟨0, ![]⟩
abbrev S1x1x1 : Shape := ⟨3, ![1, 1, 1]⟩

abbrev nBuf : Space → Nat
  | .hbm => 14
  | .vmem => 19
  | .smem => 0
  | _ => 0

abbrev bufTy : (tb : Table) → Fin (tcTables nBuf tb) → BufTy
  | .hbm, ⟨0, _⟩ => ⟨S3x4096x8192, .bf16⟩
  | .hbm, ⟨1, _⟩ => ⟨S32768x8192, .fp8e4m3⟩
  | .hbm, ⟨2, _⟩ => ⟨S32768, .f32⟩
  | .hbm, ⟨3, _⟩ => ⟨S12288x8192, .bf16⟩
  | .hbm, ⟨4, _⟩ => ⟨S1x32768, .f32⟩
  | .hbm, ⟨5, _⟩ => ⟨S8x128, .f32⟩
  | .hbm, ⟨6, _⟩ => ⟨S8x128, .f32⟩
  | .hbm, ⟨7, _⟩ => ⟨S12288x8192, .fp8e5m2⟩
  | .hbm, ⟨8, _⟩ => ⟨S12288x32768, .bf16⟩
  | .hbm, ⟨9, _⟩ => ⟨S3x4096x32768, .bf16⟩
  | .hbm, ⟨10, _⟩ => ⟨S3x4096x8192, .fp8e5m2⟩
  | .hbm, ⟨11, _⟩ => ⟨S1x1, .f32⟩
  | .hbm, ⟨12, _⟩ => ⟨S_, .f32⟩
  | .hbm, ⟨13, _⟩ => ⟨S1x1x1, .f32⟩
  | .local _ .vmem, ⟨0, _⟩ => ⟨S256x8192, .bf16⟩
  | .local _ .vmem, ⟨1, _⟩ => ⟨S256x8192, .bf16⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S256x8192, .bf16⟩
  | .local _ .vmem, ⟨6, _⟩ => ⟨S256x8192, .bf16⟩
  | .local _ .vmem, ⟨7, _⟩ => ⟨S8x128, .f32⟩
  | .local _ .vmem, ⟨8, _⟩ => ⟨S256x8192, .fp8e5m2⟩
  | .local _ .vmem, ⟨9, _⟩ => ⟨S256x8192, .fp8e5m2⟩
  | .local _ .vmem, ⟨10, _⟩ => ⟨S1024x8192, .fp8e5m2⟩
  | .local _ .vmem, ⟨11, _⟩ => ⟨S1024x8192, .fp8e5m2⟩
  | .local _ .vmem, ⟨12, _⟩ => ⟨S1024x8192, .fp8e4m3⟩
  | .local _ .vmem, ⟨13, _⟩ => ⟨S1024x8192, .fp8e4m3⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | .local _ .vmem, ⟨17, _⟩ => ⟨S1024x1024, .bf16⟩
  | .local _ .vmem, ⟨18, _⟩ => ⟨S1024x1024, .bf16⟩
  | _, _ => ⟨S3x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![48], ![false]⟩

def k0_cond3 (i : grid0.Coords) : BitVec 1 :=
  let arg0 : BitVec 32 := BitVec.ofNat 32 (i 0).val
  let c47_i32 : BitVec 32 := 47#32
  let v16 : BitVec 1 := Scalar.cmpi .eq arg0 c47_i32
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x8192 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![12, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x8192 .fp8e5m2 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x8192 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S3x4096x8192 : Shape := ⟨3, ![3, 4096, 8192]⟩
abbrev S32768x8192 : Shape := ⟨2, ![32768, 8192]⟩
abbrev S32768 : Shape := ⟨1, ![32768]⟩
abbrev S3x4096x32768 : Shape := ⟨3, ![3, 4096, 32768]⟩
abbrev S1x1x1 : Shape := ⟨3, ![1, 1, 1]⟩
abbrev S1x3x4096x8192 : Shape := ⟨4, ![1, 3, 4096, 8192]⟩
abbrev S1 : Shape := ⟨1, ![1]⟩
abbrev S1x1x1x1 : Shape := ⟨4, ![1, 1, 1, 1]⟩
abbrev S1x1x256 : Shape := ⟨3, ![1, 1, 256]⟩
abbrev S1x1x1x256 : Shape := ⟨4, ![1, 1, 1, 256]⟩
abbrev S1x1x32768 : Shape := ⟨3, ![1, 1, 32768]⟩

abbrev nBuf : Space → Nat
  | .hbm => 6
  | .vmem => 6
  | .smem => 0
  | _ => 0

abbrev bufTy : (tb : Table) → Fin (tcTables nBuf tb) → BufTy
  | .hbm, ⟨0, _⟩ => ⟨S3x4096x8192, .bf16⟩
  | .hbm, ⟨1, _⟩ => ⟨S32768x8192, .fp8e4m3⟩
  | .hbm, ⟨2, _⟩ => ⟨S32768, .f32⟩
  | .hbm, ⟨3, _⟩ => ⟨S3x4096x32768, .bf16⟩
  | .hbm, ⟨4, _⟩ => ⟨S3x4096x8192, .fp8e5m2⟩
  | .hbm, ⟨5, _⟩ => ⟨S1x1x1, .f32⟩
  | .local _ .vmem, ⟨0, _⟩ => ⟨S3x4096x8192, .bf16⟩
  | .local _ .vmem, ⟨1, _⟩ => ⟨S32768x8192, .fp8e4m3⟩
  | .local _ .vmem, ⟨2, _⟩ => ⟨S32768, .f32⟩
  | .local _ .vmem, ⟨3, _⟩ => ⟨S3x4096x32768, .bf16⟩
  | .local _ .vmem, ⟨4, _⟩ => ⟨S3x4096x8192, .fp8e5m2⟩
  | .local _ .vmem, ⟨5, _⟩ => ⟨S1x1x1, .f32⟩
  | _, _ => ⟨S3x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x4096x32768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelAmax.lean ====
/- The first call (the scale): the branch conditions of its body over the grid, and what a run of the body leaves in each
   of its three cases (the first point, a middle point, the last point), stated at any contents of the arrays it reads. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_2, k0_cond3, e0]
    word_cmp
   : ∀ t : Fin grid0.N, cond0_2 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x128 .f32 := Memref.whole cc0_scratch0
/-- The scratch `arg4` the kernel carries between points, as a view: what it holds is stated through it. -/
abbrev VS0_0 : View sig .tc .vmem S8x128 .f32 := scM0_0.view

/-- The scoped buffers of the other two calls, at any contents: this call's body touches none of them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The frame kit's invariant with the scratch operand as a memref owned at some contents, the other calls' buffers beside
    it: what the body obligation hands the run and takes back. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) :
    Σ' (L1 : List (View.Piece (Elt F) S8x128 .f32)), Σ' (L2 : List (View.Piece (Elt F) S8x128 .f32)), { LS0 : List (View.Piece (Elt F) S8x128 .f32) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 46: 46 of 48), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) :
    Σ' (L1 : List (View.Piece (Elt F) S8x128 .f32)), Σ' (L2 : List (View.Piece (Elt F) S8x128 .f32)), { LS0 : List (View.Piece (Elt F) S8x128 .f32) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) :
    Σ' (L1 : List (View.Piece (Elt F) S8x128 .f32)), Σ' (L2 : List (View.Piece (Elt F) S8x128 .f32)), { LS0 : List (View.Piece (Elt F) S8x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.Kernel.Run

end
-- ==== Proof.KernelAmaxFrame.lean ====
/- The first call (the scale): what its outputs and its scratch hold after each point of the grid, the invariant that carries
   the scratch from point to point, and the body obligation. -/
module

public import proofs.«01_k».proof.Proof.KernelAmax

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S8x128` tiling it (Lib/Ring.lean `Piece.tiledL`). -/
theorem scover0_A_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) (y : S8x128.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S8x128.size (by sl_kernel_rfl) y

/-- What case A leaves in scratch `arg4`: its pieces read back over junk. -/
def sout0_A_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S8x128` tiling it (Lib/Ring.lean `Piece.tiledL`). -/
theorem scover0_B_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) (y : S8x128.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S8x128.size (by sl_kernel_rfl) y

/-- What case B leaves in scratch `arg4`: its pieces read back over junk. -/
def sout0_B_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

/-- What case C leaves in output 1's staging buffer: its pieces read back over junk. -/
def out0_C_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

/-- What case C leaves in output 2's staging buffer: its pieces read back over junk. -/
def out0_C_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S8x128` tiling it (Lib/Ring.lean `Piece.tiledL`). -/
theorem scover0_C_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S8x128.size (by sl_kernel_rfl) y

/-- What case C leaves in scratch `arg4`: its pieces read back over junk. -/
def sout0_C_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 48 = 0 then
      if h1 : 1 ≤ (n + 1) then
        False.elim (by have hN : n + 1 < 48 := lt_of_lt_of_eq hn (show cfg0.N = 48 from N_0); omega)
      else
        if h2 : (n + 1) % 48 = 47 then
          False.elim (by have hN : n + 1 < 48 := lt_of_lt_of_eq hn (show cfg0.N = 48 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 48 = 47 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 48 := lt_of_lt_of_eq hn (show cfg0.N = 48 from N_0); omega)

/-- `outsAt0` at a point of case A: that case's contents. -/
theorem outsAt0_A (c : Dev nD) (t : Fin cfg0.N) (h0 : t.val % 48 = 0) (h1 : ¬1 ≤ t.val) (h2 : ¬t.val % 48 = 47) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 48 = 0) (h1 : 1 ≤ t.val) (h2 : ¬t.val % 48 = 47) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 48 = 0) (h1 : 1 ≤ t.val) (h2 : t.val % 48 = 47) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ others0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 48 := lt_of_lt_of_eq t.isLt (show cfg0.N = 48 from N_0)
  by_cases h0 : t.val % 48 = 0
  · by_cases h1 : 1 ≤ t.val
    · exfalso; omega
    · by_cases h2 : t.val % 48 = 47
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR⟩, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_A_0 c _ _ _ _ _ _ _ _ _ _ _ _ _)
            iexact HR
          isplitl [Ho]; · iexact Ho
          isplitl [H0]; · iexact H0
          isplitl [H1]; · iexists _; iexact H1
          iexists _; iexact H2
        · exfalso; have hN : t.val < 48 := lt_of_lt_of_eq t.isLt (show cfg0.N = 48 from N_0); omega
  · by_cases h1 : 1 ≤ t.val
    · by_cases h2 : t.val % 48 = 47
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 48 := lt_of_lt_of_eq t.isLt (show cfg0.N = 48 from N_0); omega
        · rw [PhiS_castSucc V c t, PhiS_pos V c _ _ hz]
          rw [outsAt0_C V c t h0 h1 h2]
          unfold out0_C_1 out0_C_2 sout0_C_0; (try dsimp only)
          iintro ⟨⟨⟨HS0, HR⟩, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_C_0 c _ _ _ _ _ _ _ _ _ _ _ _ _ _)
            iexact HR
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 48 := lt_of_lt_of_eq t.isLt (show cfg0.N = 48 from N_0); omega
        · rw [PhiS_castSucc V c t, PhiS_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_B_0 c _ _ _ _ _ _ _ _ _ _ _ _ _ _)
            iexact HR
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]; swap; · iexact Hg
  isplitl [HS0]
  · iexists _; iexact HS0
  iexact HR

/-- The same after the last point. -/
theorem hout0 (c : Dev nD) : (dat0 V c).Φ (Fin.last cfg0.N) ⊢ Pipeline.ΦA spec0 c :=
  Phi_out V c _ (by rw [Fin.val_last]; have : cfg0.N = 48 := N_0; omega)

end Cert.Kernel.Run

end
-- ==== Proof.KernelBlocks.lean ====
/- The second and the third call (the codes, the product): what one run of each body leaves, and its body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_quantise` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x8192 := Rect.unit (s := S256x8192) ![0, 0] S256x8192.size inb_S256x8192_S256x8192_0_0
abbrev r1_1 : Rect S8x128 := Rect.unit (s := S8x128) ![0, 0] S1x1.size inb_S8x128_S1x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S256x8192 .bf16) (x1 : Vec F S8x128 .f32) : Vec F S256x8192 .fp8e5m2 :=
  View.canon [⟨r1_0, k1_pay1 (View.ld x0 r1_0) (View.ld x1 r1_1)⟩]

/-- Its stores tile the buffer (checked by evaluation), so they cover it. -/
theorem cover1_2 (p0 : Vec F S256x8192 .fp8e5m2) (y : S256x8192.Idx) :
    ∃ pc ∈ ([⟨r1_0, p0⟩] : List (View.Piece (Elt F) S256x8192 .fp8e5m2)), y ∈ pc.1.set :=
  View.cover_of_tiled [⟨r1_0, p0⟩] S256x8192.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x8192 .bf16) (harg1 : arg1.IsWhole) (arg2 : Memref sig .tc .vmem S8x128 .f32) (harg2 : arg2.IsWhole) (arg3 : Memref sig .tc .vmem S256x8192 .fp8e5m2) (harg3 : arg3.IsWhole)
    (x0 : Vec F S256x8192 .bf16) (x1 : Vec F S8x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_quantise i arg1 harg1 arg2 harg2 arg3 harg3) K := by
  simp only [cc1_quantise_eq_skeleton]; unfold cc1_quantise_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_matmul` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x8192 := Rect.unit (s := S1024x8192) ![0, 0] S1024x8192.size inb_S1024x8192_S1024x8192_0_0
abbrev r2_1 : Rect S8x128 := Rect.unit (s := S8x128) ![0, 0] S1x1.size inb_S8x128_S1x1_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x8192 .fp8e5m2) (x1 : Vec F S1024x8192 .fp8e4m3) (x2 : Vec F S1x1024 .f32) (x3 : Vec F S8x128 .f32) : Vec F S1024x1024 .bf16 :=
  View.canon [⟨r2_3, k2_pay1 (View.ld x0 r2_0) (View.ld x1 r2_0) (View.ld x3 r2_1) (View.ld x2 r2_2)⟩]

/-- Its stores tile the buffer (checked by evaluation), so they cover it. -/
theorem cover2_4 (p0 : Vec F S1024x1024 .bf16) (y : S1024x1024.Idx) :
    ∃ pc ∈ ([⟨r2_3, p0⟩] : List (View.Piece (Elt F) S1024x1024 .bf16)), y ∈ pc.1.set :=
  View.cover_of_tiled [⟨r2_3, p0⟩] S1024x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x8192 .fp8e5m2) (harg2 : arg2.IsWhole) (arg3 : Memref sig .tc .vmem S1024x8192 .fp8e4m3) (harg3 : arg3.IsWhole) (arg4 : Memref sig .tc .vmem S1x1024 .f32) (harg4 : arg4.IsWhole) (arg5 : Memref sig .tc .vmem S8x128 .f32) (harg5 : arg5.IsWhole) (arg6 : Memref sig .tc .vmem S1024x1024 .bf16) (harg6 : arg6.IsWhole)
    (x0 : Vec F S1024x8192 .fp8e5m2) (x1 : Vec F S1024x8192 .fp8e4m3) (x2 : Vec F S1x1024 .f32) (x3 : Vec F S8x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_matmul i arg2 harg2 arg3 harg3 arg4 harg4 arg5 harg5 arg6 harg6) K := by
  simp only [cc2_matmul_eq_skeleton]; unfold cc2_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Run

end
-- ==== Proof.KernelRun.lean ====
/- The whole program: the two host stretches and the three calls in order, what every buffer holds at each boundary, and the
   frame. -/
module

public import proofs.«01_k».proof.Proof.KernelAmaxFrame
public import proofs.«01_k».proof.Proof.KernelBlocks

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7, main_v8, main_v9]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: every weakly fair execution of the program terminates, nothing faulting; every final state has every
    buffer that is not scoped at the last boundary's contents `W5`, and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run_all m ρ)

end Cert.Kernel.Run

end
-- ==== Proof.KernelIdealAmax.lean ====
/- The first call (the scale): the branch conditions of its body over the grid, and what a run of the body leaves in each
   of its three cases (the first point, a middle point, the last point), stated at any contents of the arrays it reads. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 0).val) 0#32)) 0#32) = 1#1
/-- It holds at the points from point 1 on — decided over the grid. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_2, k0_cond3, e0]
    word_cmp
   : ∀ t : Fin grid0.N, cond0_2 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- At the points of case A the printed configuration (`Cfg.idle`) calls output 1 idle: the case stores nothing into it. -/
theorem idleAt0_1_A : ∀ t : Fin cfg0.N, cond0_0 (grid0.coords t) → ¬cond0_1 (grid0.coords t) → ¬cond0_2 (grid0.coords t) → cfg0.idle 1 (grid0.coords t) = true := by decide +kernel
/-- At the points of case A the pipeline does not write output 1's block back. -/
theorem noFlush0_1_A : ∀ t : Fin cfg0.N, cond0_0 (grid0.coords t) → ¬cond0_1 (grid0.coords t) → ¬cond0_2 (grid0.coords t) → (cfg0.win 1).flush t = false := by decide +kernel
/-- At the points of case B the printed configuration (`Cfg.idle`) calls output 1 idle: the case stores nothing into it. -/
theorem idleAt0_1_B : ∀ t : Fin cfg0.N, ¬cond0_0 (grid0.coords t) → cond0_1 (grid0.coords t) → ¬cond0_2 (grid0.coords t) → cfg0.idle 1 (grid0.coords t) = true := by decide +kernel
/-- At the points of case B the pipeline does not write output 1's block back. -/
theorem noFlush0_1_B : ∀ t : Fin cfg0.N, ¬cond0_0 (grid0.coords t) → cond0_1 (grid0.coords t) → ¬cond0_2 (grid0.coords t) → (cfg0.win 1).flush t = false := by decide +kernel
/-- At the points of case C the printed configuration (`Cfg.idle`) calls output 1 live: the case stores into it. -/
theorem liveAt0_1_C : ∀ t : Fin cfg0.N, ¬cond0_0 (grid0.coords t) → cond0_1 (grid0.coords t) → cond0_2 (grid0.coords t) → cfg0.idle 1 (grid0.coords t) = false := by decide +kernel
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 1, through which its contents are stated (`View.read_writes_of_cover`: the
    choice does not matter). -/
abbrev VO0_1 : View sig .tc .vmem S8x128 .f32 := (Memref.whole cc0_stg1_0 : Memref sig .tc .vmem S8x128 .f32).view
/-- One staging buffer of output window 2, through which its contents are stated (`View.read_writes_of_cover`: the
    choice does not matter). -/
abbrev VO0_2 : View sig .tc .vmem S8x128 .f32 := (Memref.whole cc0_stg2_0 : Memref sig .tc .vmem S8x128 .f32).view
/-- Each window's current staging memref at point `t`, spelled as the pipeline passes it (`bodyAt0`), and its wholeness. -/
abbrev ms0_0 (t : Fin cfg0.N) : Memref sig .tc .vmem S256x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S8x128 .f32 := Memref.whole cc0_scratch0
/-- The scratch `arg4` the kernel carries between points, as a view: what it holds is stated through it. -/
abbrev VS0_0 : View sig .tc .vmem S8x128 .f32 := scM0_0.view

/-- The scoped buffers of the other two calls, at any contents: this call's body touches none of them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The frame kit's invariant with the scratch operand as a memref owned at some contents, the other calls' buffers beside
    it: what the body obligation hands the run and takes back. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) :
    Σ' (L1 : List (View.Piece (Elt F) S8x128 .f32)), Σ' (L2 : List (View.Piece (Elt F) S8x128 .f32)), { LS0 : List (View.Piece (Elt F) S8x128 .f32) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 46: 46 of 48), WITH the
    proof that on whole staging memrefs — the inputs' at their contents, the outputs it leaves idle (1, 2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) :
    Σ' (L1 : List (View.Piece (Elt F) S8x128 .f32)), Σ' (L2 : List (View.Piece (Elt F) S8x128 .f32)), { LS0 : List (View.Piece (Elt F) S8x128 .f32) //
      ∀ (xi1 : Vec F S8x128 .f32) (xi2 : Vec F S8x128 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨[], [], ?_, fun xi1 xi2 E K => ?run⟩
  case run =>
    simp only [cc0_amax_eq_skeleton]; unfold cc0_amax_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 47), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) :
    Σ' (L1 : List (View.Piece (Elt F) S8x128 .f32)), Σ' (L2 : List (View.Piece (Elt F) S8x128 .f32)), { LS0 : List (View.Piece (Elt F) S8x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton]
    unfold owns
    iintro ⟨⟨%f0, %hf0, H0⟩, ⟨%d1, %f1, -, H1⟩, ⟨%d2, %f2, -, H2⟩, ⟨%fs0, %hfs0, HS0⟩, Hk⟩
    obtain rfl := harg1.eq_unread hf0; obtain rfl := harg4.eq_unread hfs0
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    iexists _; iexact HS0

end Cert.KernelIdeal.Run

end
-- ==== Proof.KernelIdealAmaxFrame.lean ====
/- The first call (the scale): what its outputs and its scratch hold after each point of the grid, the invariant that carries
   the scratch from point to point, and the body obligation. -/
module

public import proofs.«01_k».proof.Proof.KernelIdealAmax

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A stores nothing into output 1 (the window is idle at its points and not written back there):
    no pieces — a placeholder (junk read back) that nothing consults, since at these points the window is neither
    written back nor read at the next point (Lib/Pipeline.lean "Idle points"). -/
def out0_A_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VO0_1.read (Elt F) (VO0_1.writes (Elt F) VO0_1.junk (kernelRun0_A c i arg1 harg1 arg2 harg2 arg3 harg3 arg4 harg4 hc0 hc1 hc2 x0).1)

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VO0_2.read (Elt F) (VO0_2.writes (Elt F) VO0_2.junk (kernelRun0_A c i arg1 harg1 arg2 harg2 arg3 harg3 arg4 harg4 hc0 hc1 hc2 x0).2.1)

/-- Case A's pieces for scratch `arg4`, which the kernel carries between points, cover it: 1 piece of `S8x128` tiling it (Lib/Ring.lean `Piece.tiledL`). -/
theorem scover0_A_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) (y : S8x128.Idx) :
    ∃ pc ∈ (kernelRun0_A c i arg1 harg1 arg2 harg2 arg3 harg3 arg4 harg4 hc0 hc1 hc2 x0).2.2.1, y ∈ pc.1.set :=
  View.cover_of_tiledL (kernelRun0_A c i arg1 harg1 arg2 harg2 arg3 harg3 arg4 harg4 hc0 hc1 hc2 x0).2.2.1 S8x128.size (by sl_kernel_rfl) y

/-- What case A leaves in scratch `arg4`: its pieces read back over junk. -/
def sout0_A_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : Vec F S8x128 .f32 :=
  VS0_0.read (Elt F) (VS0_0.writes (Elt F) VS0_0.junk (kernelRun0_A c i arg1 harg1 arg2 harg2 arg3 harg3 arg4 harg4 hc0 hc1 hc2 x0).2.2.1)

/-- Case B stores nothing into output 1 (the window is idle at its points and not written back there):
    no pieces — a placeholder (junk read back) that nothing consults, since at these points the window is neither
    written back nor read at the next point (Lib/Pipeline.lean "Idle points"). -/
def out0_B_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VO0_1.read (Elt F) (VO0_1.writes (Elt F) VO0_1.junk (kernelRun0_B c i arg1 harg1 arg2 harg2 arg3 harg3 arg4 harg4 hc0 hc1 hc2 x0 xs0).1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VO0_2.read (Elt F) (VO0_2.writes (Elt F) VO0_2.junk (kernelRun0_B c i arg1 harg1 arg2 harg2 arg3 harg3 arg4 harg4 hc0 hc1 hc2 x0 xs0).2.1)

/-- Case B's pieces for scratch `arg4`, which the kernel carries between points, cover it: 1 piece of `S8x128` tiling it (Lib/Ring.lean `Piece.tiledL`). -/
theorem scover0_B_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) (y : S8x128.Idx) :
    ∃ pc ∈ (kernelRun0_B c i arg1 harg1 arg2 harg2 arg3 harg3 arg4 harg4 hc0 hc1 hc2 x0 xs0).2.2.1, y ∈ pc.1.set :=
  View.cover_of_tiledL (kernelRun0_B c i arg1 harg1 arg2 harg2 arg3 harg3 arg4 harg4 hc0 hc1 hc2 x0 xs0).2.2.1 S8x128.size (by sl_kernel_rfl) y

/-- What case B leaves in scratch `arg4`: its pieces read back over junk. -/
def sout0_B_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : Vec F S8x128 .f32 :=
  VS0_0.read (Elt F) (VS0_0.writes (Elt F) VS0_0.junk (kernelRun0_B c i arg1 harg1 arg2 harg2 arg3 harg3 arg4 harg4 hc0 hc1 hc2 x0 xs0).2.2.1)

/-- Case C's pieces for output 1 tile its block (1 store of `S8x128`, checked by the kernel's evaluation: Lib/Ring.lean `Piece.tiledL`, linear in the pieces, through a loop's `@[irreducible]` trip theorem too), so they cover it. -/
theorem cover0_C_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).1, y ∈ pc.1.set :=
  View.cover_of_tiledL (kernelRun0_C c i arg1 harg1 arg2 harg2 arg3 harg3 arg4 harg4 hc0 hc1 hc2 x0 xs0).1 S8x128.size (by sl_kernel_rfl) y

/-- What case C leaves in output 1's staging buffer: its pieces read back over junk. -/
def out0_C_1 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VO0_1.read (Elt F) (VO0_1.writes (Elt F) VO0_1.junk (kernelRun0_C c i arg1 harg1 arg2 harg2 arg3 harg3 arg4 harg4 hc0 hc1 hc2 x0 xs0).1)

/-- Case C's pieces for output 2 tile its block (1 store of `S8x128`, checked by the kernel's evaluation: Lib/Ring.lean `Piece.tiledL`, linear in the pieces, through a loop's `@[irreducible]` trip theorem too), so they cover it. -/
theorem cover0_C_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).2.1, y ∈ pc.1.set :=
  View.cover_of_tiledL (kernelRun0_C c i arg1 harg1 arg2 harg2 arg3 harg3 arg4 harg4 hc0 hc1 hc2 x0 xs0).2.1 S8x128.size (by sl_kernel_rfl) y

/-- What case C leaves in output 2's staging buffer: its pieces read back over junk. -/
def out0_C_2 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VO0_2.read (Elt F) (VO0_2.writes (Elt F) VO0_2.junk (kernelRun0_C c i arg1 harg1 arg2 harg2 arg3 harg3 arg4 harg4 hc0 hc1 hc2 x0 xs0).2.1)

/-- Case C's pieces for scratch `arg4`, which the kernel carries between points, cover it: 1 piece of `S8x128` tiling it (Lib/Ring.lean `Piece.tiledL`). -/
theorem scover0_C_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) (y : S8x128.Idx) :
    ∃ pc ∈ (kernelRun0_C c i arg1 harg1 arg2 harg2 arg3 harg3 arg4 harg4 hc0 hc1 hc2 x0 xs0).2.2.1, y ∈ pc.1.set :=
  View.cover_of_tiledL (kernelRun0_C c i arg1 harg1 arg2 harg2 arg3 harg3 arg4 harg4 hc0 hc1 hc2 x0 xs0).2.2.1 S8x128.size (by sl_kernel_rfl) y

/-- What case C leaves in scratch `arg4`: its pieces read back over junk. -/
def sout0_C_0 (c : Dev nD) (i : grid0.Coords) (arg1 : Memref sig .tc .vmem S256x8192 .bf16) (harg1 : arg1.IsWhole) (arg2 : Memref sig .tc .vmem S8x128 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : Vec F S8x128 .f32 :=
  VS0_0.read (Elt F) (VS0_0.writes (Elt F) VS0_0.junk (kernelRun0_C c i arg1 harg1 arg2 harg2 arg3 harg3 arg4 harg4 hc0 hc1 hc2 x0 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x128 .f32 × Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩))
  | n + 1, hn =>
    if h0 : (n + 1) % 48 = 0 then
      if h1 : 1 ≤ (n + 1) then
        False.elim (by have hN : n + 1 < 48 := lt_of_lt_of_eq hn (show cfg0.N = 48 from N_0); omega)
      else
        if h2 : (n + 1) % 48 = 47 then
          False.elim (by have hN : n + 1 < 48 := lt_of_lt_of_eq hn (show cfg0.N = 48 from N_0); omega)
        else
          (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩))
    else
      if h1 : 1 ≤ (n + 1) then
        if h2 : (n + 1) % 48 = 47 then
          (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (outsAt0 c n (Nat.lt_of_succ_lt hn)).2.2)
        else
          (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (outsAt0 c n (Nat.lt_of_succ_lt hn)).2.2)
      else
        False.elim (by have hN : n + 1 < 48 := lt_of_lt_of_eq hn (show cfg0.N = 48 from N_0); omega)

/-- `outsAt0` at a point of case A: that case's contents. -/
theorem outsAt0_A (c : Dev nD) (t : Fin cfg0.N) (h0 : t.val % 48 = 0) (h1 : ¬1 ≤ t.val) (h2 : ¬t.val % 48 = 47) :
    outsAt0 V c t.val t.isLt = (out0_A_1 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 48 = 0) (h1 : 1 ≤ t.val) (h2 : ¬t.val % 48 = 47) :
    outsAt0 V c t.val t.isLt = (out0_B_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 48 = 0) (h1 : 1 ≤ t.val) (h2 : t.val % 48 = 47) :
    outsAt0 V c t.val t.isLt = (out0_C_1 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ others0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2) ∗ others0 c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ others0 c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 48 := lt_of_lt_of_eq t.isLt (show cfg0.N = 48 from N_0)
  by_cases h0 : t.val % 48 = 0
  · by_cases h1 : 1 ≤ t.val
    · exfalso; omega
    · by_cases h2 : t.val % 48 = 47
      · exfalso; omega
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_A t ((hcond0_0 t).mpr h0) (fun h => h1 ((hcond0_1 t).mp h)) (fun h => h2 ((hcond0_2 t).mp h))) (noFlush0_1_A t ((hcond0_0 t).mpr h0) (fun h => h1 ((hcond0_1 t).mp h)) (fun h => h2 ((hcond0_2 t).mp h)))]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS_castSucc V c t, PhiS_zero V c _ _ hz, PhiA0_eq]
          rw [outsAt0_A V c t h0 h1 h2]
          unfold sout0_A_0; (try dsimp only)
          iintro ⟨⟨⟨HS0, HR⟩, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t)).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_A_0 c _ _ _ _ _ _ _ _ _ _ _ _ _)
            iexact HR
          isplitl [Ho]; · iexact Ho
          isplitl [H0]; · iexact H0
          isplitl [H1]; · iexists _; iexact H1
          iexists _; iexact H2
        · exfalso; have hN : t.val < 48 := lt_of_lt_of_eq t.isLt (show cfg0.N = 48 from N_0); omega
  · by_cases h1 : 1 ≤ t.val
    · by_cases h2 : t.val % 48 = 47
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1) ((hcond0_2 t).mpr h2)], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 48 := lt_of_lt_of_eq t.isLt (show cfg0.N = 48 from N_0); omega
        · rw [PhiS_castSucc V c t, PhiS_pos V c _ _ hz]
          rw [outsAt0_C V c t h0 h1 h2]
          unfold out0_C_1 out0_C_2 sout0_C_0; (try dsimp only)
          iintro ⟨⟨⟨HS0, HR⟩, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) _).2.2.2 Set.univ _)
          isplitl [H0]; · iexact H0
          isplitl [H1]; · iexists _; iexact H1
          isplitl [H2]; · iexists _; iexact H2
          isplitl [HS0]; · iexact HS0
          iintro ⟨H0, ⟨%e1, H1⟩, ⟨%e2, H2⟩, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_C_0 c _ _ _ _ _ _ _ _ _ _ _ _ _ _)
            iexact HR
          isplitl [Ho]; · iexact Ho
          isplitl [H0]; · iexact H0
          isplitl [H1]
          · unfold owns; iexists _; isplitr
            swap; · iexact H1
            ipureintro; exact View.read_writes_of_cover _ _ _ _ _ (cover0_C_1 c _ _ _ _ _ _ _ _ _ _ _ _ _ _)
          unfold owns; iexists _; isplitr
          swap; · iexact H2
          ipureintro; exact View.read_writes_of_cover _ _ _ _ _ (cover0_C_2 c _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [Dat.leavesExact_idle (dat0 V c) 1 t (idleAt0_1_B t (fun h => h0 ((hcond0_0 t).mp h)) ((hcond0_1 t).mpr h1) (fun h => h2 ((hcond0_2 t).mp h))) (noFlush0_1_B t (fun h => h0 ((hcond0_0 t).mp h)) ((hcond0_1 t).mpr h1) (fun h => h2 ((hcond0_2 t).mp h)))]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 48 := lt_of_lt_of_eq t.isLt (show cfg0.N = 48 from N_0); omega
        · rw [PhiS_castSucc V c t, PhiS_pos V c _ _ hz]
          rw [outsAt0_B V c t h0 h1 h2]
          unfold sout0_B_0; (try dsimp only)
          iintro ⟨⟨⟨HS0, HR⟩, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) _).2.2.2 _ _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 HR Hg]
          · isplitl [HS0 HR]; swap; · iexact Hg
            isplitl [HS0]
            · unfold owns; iexists _; isplitr
              swap; · iexact HS0
              ipureintro; exact View.read_writes_of_cover _ _ _ _ _ (scover0_B_0 c _ _ _ _ _ _ _ _ _ _ _ _ _ _)
            iexact HR
          isplitl [Ho]; · iexact Ho
          isplitl [H0]; · iexact H0
          isplitl [H1]; · iexists _; iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR⟩, Hg⟩
  isplitl [HS0 HR]; swap; · iexact Hg
  isplitl [HS0]
  · iexists _; iexact HS0
  iexact HR

/-- The same after the last point. -/
theorem hout0 (c : Dev nD) : (dat0 V c).Φ (Fin.last cfg0.N) ⊢ Pipeline.ΦA spec0 c :=
  Phi_out V c _ (by rw [Fin.val_last]; have : cfg0.N = 48 := N_0; omega)

end Cert.KernelIdeal.Run

end
-- ==== Proof.KernelIdealBlocks.lean ====
/- The second and the third call (the codes, the product): what one run of each body leaves, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1_quantise` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x8192 := Rect.unit (s := S256x8192) ![0, 0] S256x8192.size inb_S256x8192_S256x8192_0_0
abbrev r1_1 : Rect S8x128 := Rect.unit (s := S8x128) ![0, 0] S1x1.size inb_S8x128_S1x1_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S256x8192 .bf16) (x1 : Vec F S8x128 .f32) : Vec F S256x8192 .fp8e5m2 :=
  View.canon [⟨r1_0, k1_pay1 (View.ld x0 r1_0) (View.ld x1 r1_1)⟩]

/-- Its stores tile the buffer (checked by evaluation), so they cover it. -/
theorem cover1_2 (p0 : Vec F S256x8192 .fp8e5m2) (y : S256x8192.Idx) :
    ∃ pc ∈ ([⟨r1_0, p0⟩] : List (View.Piece (Elt F) S256x8192 .fp8e5m2)), y ∈ pc.1.set :=
  View.cover_of_tiled [⟨r1_0, p0⟩] S256x8192.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S256x8192 .bf16) (harg1 : arg1.IsWhole) (arg2 : Memref sig .tc .vmem S8x128 .f32) (harg2 : arg2.IsWhole) (arg3 : Memref sig .tc .vmem S256x8192 .fp8e5m2) (harg3 : arg3.IsWhole)
    (x0 : Vec F S256x8192 .bf16) (x1 : Vec F S8x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_quantise i arg1 harg1 arg2 harg2 arg3 harg3) K := by
  simp only [cc1_quantise_eq_skeleton]; unfold cc1_quantise_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2_matmul` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x8192 := Rect.unit (s := S1024x8192) ![0, 0] S1024x8192.size inb_S1024x8192_S1024x8192_0_0
abbrev r2_1 : Rect S8x128 := Rect.unit (s := S8x128) ![0, 0] S1x1.size inb_S8x128_S1x1_0_0
abbrev r2_2 : Rect S1x1024 := Rect.unit (s := S1x1024) ![0, 0] S1x1024.size inb_S1x1024_S1x1024_0_0
abbrev r2_3 : Rect S1024x1024 := Rect.unit (s := S1024x1024) ![0, 0] S1024x1024.size inb_S1024x1024_S1024x1024_0_0

/-! ## What the body leaves in each output window's buffer -/

/-- Window 4's staging buffer after the body, from the input windows' blocks: its 1 store as pieces, LAST
    FIRST (Lib/Pipeline/FrameBody.lean `View.canon`; the payloads are the skeleton's). -/
def out2_4 (x0 : Vec F S1024x8192 .fp8e5m2) (x1 : Vec F S1024x8192 .fp8e4m3) (x2 : Vec F S1x1024 .f32) (x3 : Vec F S8x128 .f32) : Vec F S1024x1024 .bf16 :=
  View.canon [⟨r2_3, k2_pay1 (View.ld x0 r2_0) (View.ld x1 r2_0) (View.ld x3 r2_1) (View.ld x2 r2_2)⟩]

/-- Its stores tile the buffer (checked by evaluation), so they cover it. -/
theorem cover2_4 (p0 : Vec F S1024x1024 .bf16) (y : S1024x1024.Idx) :
    ∃ pc ∈ ([⟨r2_3, p0⟩] : List (View.Piece (Elt F) S1024x1024 .bf16)), y ∈ pc.1.set :=
  View.cover_of_tiled [⟨r2_3, p0⟩] S1024x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg2 : Memref sig .tc .vmem S1024x8192 .fp8e5m2) (harg2 : arg2.IsWhole) (arg3 : Memref sig .tc .vmem S1024x8192 .fp8e4m3) (harg3 : arg3.IsWhole) (arg4 : Memref sig .tc .vmem S1x1024 .f32) (harg4 : arg4.IsWhole) (arg5 : Memref sig .tc .vmem S8x128 .f32) (harg5 : arg5.IsWhole) (arg6 : Memref sig .tc .vmem S1024x1024 .bf16) (harg6 : arg6.IsWhole)
    (x0 : Vec F S1024x8192 .fp8e5m2) (x1 : Vec F S1024x8192 .fp8e4m3) (x2 : Vec F S1x1024 .f32) (x3 : Vec F S8x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out2_4 x0 x1 x2 x3)) -∗ K ⟨⟩))
      ⊢ wp frame (wpE (defs₀ (F := F)) Variants.none c none) E (cc2_matmul i arg2 harg2 arg3 harg3 arg4 harg4 arg5 harg5 arg6 harg6) K := by
  simp only [cc2_matmul_eq_skeleton]; unfold cc2_matmul_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdealRun.lean ====
/- The whole program: the two host stretches and the three calls in order, what every buffer holds at each boundary, and the
   frame. -/
module

public import proofs.«01_k».proof.Proof.KernelIdealAmaxFrame
public import proofs.«01_k».proof.Proof.KernelIdealBlocks

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7, main_v8, main_v9]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: every weakly fair execution of the program terminates, nothing faulting; every final state has every
    buffer that is not scoped at the last boundary's contents `W5`, and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c)⟩, h.2⟩) (run_all m ρ)

end Cert.KernelIdeal.Run

end
-- ==== Proof.ScaleMath.lean ====
/- The arithmetic of the power-of-two scale on extended reals, one number at a time: the kernel's search for the exponent of
   the largest activation over 57344, and the reference's count of the powers of two, give the same scale and inverse scale
   wherever the precondition holds. -/
module

public import Idealize.ShloMosaic.PureOps.Ideal
public import Idealize.ShloMosaic.PureOps.Ideal.Laws
public import Idealize.ShloMosaic.Lib.ValueIdx
public import Mathlib.Algebra.Order.Archimedean.Basic
public import Mathlib.Tactic.IntervalCases
public import Mathlib.Tactic.NormNum
public import Mathlib.Tactic.Linarith

@[expose] public section

noncomputable section

namespace Cert.Scale

open Idealize.ShloMosaic
open scoped BigOperators

/-! ## The powers of two the kernel builds from their exponent field -/

/-- The float with exponent field `t` and empty significand: what the kernel makes of `t` by a shift and a bitcast. -/
def pw (t : BitVec 32) : EReal := FloatOps.ofBits (F := Ideal) .f32 (IntOp.shli .vector t 23#32)

/-- The three fields of the word `n` shifted left by 23, for every exponent field `n`. -/
theorem fields : ∀ n : Fin 256,
    ((IntOp.shli .vector (BitVec.ofNat 32 n.val) 23#32).extractLsb' 23 8).toNat = n.val
    ∧ ((IntOp.shli .vector (BitVec.ofNat 32 n.val) 23#32).extractLsb' 0 23).toNat = 0
    ∧ ((IntOp.shli .vector (BitVec.ofNat 32 n.val) 23#32).extractLsb' 31 1 == 1#1) = false := by
  decide +kernel

/-- A word with no sign, exponent field `n` from 1 to 254 and an empty significand is `2^(n - 127)`. -/
theorem ieee_normal (b : BitVec 32) (n : ℕ) (e : (b.extractLsb' 23 8).toNat = n) (f : (b.extractLsb' 0 23).toNat = 0)
    (s : (b.extractLsb' 31 1 == 1#1) = false) (h1 : 1 ≤ n) (h2 : n ≤ 254) :
    Ideal.ieee 8 23 b = (((2 : ℝ) ^ ((n : ℤ) - 127) : ℝ) : EReal) := by
  unfold Ideal.ieee
  simp only [Nat.reduceAdd, e, f, s]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num : (2 : ℝ) ≠ 0)]
  congr 1
  norm_num

/-- With exponent field 255 it is infinity. -/
theorem ieee_top (b : BitVec 32) (e : (b.extractLsb' 23 8).toNat = 255) (f : (b.extractLsb' 0 23).toNat = 0)
    (s : (b.extractLsb' 31 1 == 1#1) = false) : Ideal.ieee 8 23 b = ⊤ := by
  unfold Ideal.ieee
  simp only [Nat.reduceAdd, e, f, s]
  simp

theorem pw_def (t : BitVec 32) : pw t = Ideal.ieee 8 23 (IntOp.shli .vector t 23#32) := rfl

/-- Exponent field `n` from 1 to 254 is `2^(n - 127)`. -/
theorem pw_normal (n : ℕ) (h1 : 1 ≤ n) (h2 : n ≤ 254) : pw (BitVec.ofNat 32 n) = (((2 : ℝ) ^ ((n : ℤ) - 127) : ℝ) : EReal) := by
  obtain ⟨e, f, s⟩ := fields ⟨n, by omega⟩
  exact (pw_def _).trans (ieee_normal _ n e f s h1 h2)

/-- Exponent field 255 is infinity. -/
theorem pw_255 : pw 255#32 = ⊤ := by
  obtain ⟨e, f, s⟩ := fields ⟨255, by omega⟩
  exact (pw_def _).trans (ieee_top _ e f s)

/-! ## The kernel's search -/

/-- One step of the search: bit `b` is set in `t` if the float of the larger field is at most `v`. -/
def stp (v : EReal) (b t : BitVec 32) : BitVec 32 :=
  Scalar.select (FloatOps.cmpf (F := Ideal) (φ := .f32) .oge v (pw (IntOp.addi t b))) (IntOp.addi t b) t

/-- The field the search ends with. -/
def kT (v : EReal) : BitVec 32 :=
  stp v 1#32 (stp v 2#32 (stp v 4#32 (stp v 8#32 (stp v 16#32 (stp v 32#32 (stp v 64#32 (stp v 128#32 0#32)))))))

/-- The kernel's exponent: the field less 126, 0 for the two fields that are no power of two. -/
def kE (v : EReal) : BitVec 32 :=
  Scalar.select (IntOp.ori (IntOp.cmpi .eq (kT v) 0#32) (IntOp.cmpi .eq (kT v) 255#32)) 0#32 (IntOp.subi (kT v) 126#32)

/-- The kernel's scale and inverse scale. -/
def kScale (v : EReal) : EReal := pw (IntOp.addi (kE v) 127#32)
def kInv (v : EReal) : EReal := pw (IntOp.subi 127#32 (kE v))

/-- `T` is the field of `v`: the powers with fields 1 to 255 that are at most `v` are those up to `T`. -/
def Field (v : EReal) (T : ℕ) : Prop := ∀ n : ℕ, 1 ≤ n → n ≤ 255 → (pw (BitVec.ofNat 32 n) ≤ v ↔ n ≤ T)

/-- A comparison's bit. -/
theorem select_oge {α : Type} (x y : EReal) (a b : α) :
    Scalar.select (FloatOps.cmpf (F := Ideal) (φ := .f32) .oge x y) a b = if y ≤ x then a else b := by
  show Scalar.select (BitVec.ofBool (decide (y ≤ x))) a b = _
  unfold Scalar.select
  by_cases h : y ≤ x <;> simp [h]

/-- One step keeps the field between the bits found so far and the bits still to come. -/
theorem stp_spec (v : EReal) (T : ℕ) (hF : Field v T) (b n : ℕ) (x : BitVec 32) (hb : 1 ≤ b) (hx : x = BitVec.ofNat 32 n)
    (hn : n ≤ T) (hT : T < n + 2 * b) (hr : n + 2 * b ≤ 256) :
    ∃ n', stp v (BitVec.ofNat 32 b) x = BitVec.ofNat 32 n' ∧ n' ≤ T ∧ T < n' + b ∧ n' + b ≤ 256 := by
  subst hx
  have ha : IntOp.addi (BitVec.ofNat 32 n) (BitVec.ofNat 32 b) = BitVec.ofNat 32 (n + b) := by
    show BitVec.ofNat 32 n + BitVec.ofNat 32 b = _
    rw [BitVec.ofNat_add]
  unfold stp
  rw [ha, select_oge, ]
  by_cases h : n + b ≤ T
  · rw [if_pos ((hF (n + b) (by omega) (by omega)).2 h)]
    exact ⟨n + b, rfl, h, by omega, by omega⟩
  · rw [if_neg (fun h' => h ((hF (n + b) (by omega) (by omega)).1 h'))]
    exact ⟨n, rfl, hn, by omega, by omega⟩

/-- The search finds the field. -/
theorem kT_eq (v : EReal) (T : ℕ) (hF : Field v T) (hT : T ≤ 255) : kT v = BitVec.ofNat 32 T := by
  obtain ⟨n1, e1, a1, b1, c1⟩ := stp_spec v T hF 128 0 0#32 (by omega) rfl (by omega) (by omega) (by omega)
  obtain ⟨n2, e2, a2, b2, c2⟩ := stp_spec v T hF 64 n1 _ (by omega) e1 a1 (by omega) (by omega)
  obtain ⟨n3, e3, a3, b3, c3⟩ := stp_spec v T hF 32 n2 _ (by omega) e2 a2 (by omega) (by omega)
  obtain ⟨n4, e4, a4, b4, c4⟩ := stp_spec v T hF 16 n3 _ (by omega) e3 a3 (by omega) (by omega)
  obtain ⟨n5, e5, a5, b5, c5⟩ := stp_spec v T hF 8 n4 _ (by omega) e4 a4 (by omega) (by omega)
  obtain ⟨n6, e6, a6, b6, c6⟩ := stp_spec v T hF 4 n5 _ (by omega) e5 a5 (by omega) (by omega)
  obtain ⟨n7, e7, a7, b7, c7⟩ := stp_spec v T hF 2 n6 _ (by omega) e6 a6 (by omega) (by omega)
  obtain ⟨n8, e8, a8, b8, c8⟩ := stp_spec v T hF 1 n7 _ (by omega) e7 a7 (by omega) (by omega)
  have h : n8 = T := by omega
  rw [← h]; exact e8

/-- The kernel's exponent, field by field. -/
theorem words : ∀ T : Fin 256, 1 ≤ T.val → T.val ≤ 252 →
    IntOp.addi (Scalar.select (IntOp.ori (IntOp.cmpi .eq (BitVec.ofNat 32 T.val) 0#32) (IntOp.cmpi .eq (BitVec.ofNat 32 T.val) 255#32))
      0#32 (IntOp.subi (BitVec.ofNat 32 T.val) 126#32)) 127#32 = BitVec.ofNat 32 (T.val + 1)
    ∧ IntOp.subi 127#32 (Scalar.select (IntOp.ori (IntOp.cmpi .eq (BitVec.ofNat 32 T.val) 0#32) (IntOp.cmpi .eq (BitVec.ofNat 32 T.val) 255#32))
      0#32 (IntOp.subi (BitVec.ofNat 32 T.val) 126#32)) = BitVec.ofNat 32 (253 - T.val) := by
  decide +kernel

/-- Scale and inverse scale of a field from 1 to 252. -/
theorem kScale_of_field (v : EReal) (T : ℕ) (hF : Field v T) (h1 : 1 ≤ T) (h2 : T ≤ 252) :
    kScale v = (((2 : ℝ) ^ ((T : ℤ) - 126) : ℝ) : EReal) := by
  unfold kScale kE
  rw [kT_eq v T hF (by omega), (words ⟨T, by omega⟩ h1 h2).1, pw_normal _ (by simp) (by simp; omega)]
  congr 2; push_cast; omega
theorem kInv_of_field (v : EReal) (T : ℕ) (hF : Field v T) (h1 : 1 ≤ T) (h2 : T ≤ 252) :
    kInv v = (((2 : ℝ) ^ (126 - (T : ℤ)) : ℝ) : EReal) := by
  unfold kInv kE
  rw [kT_eq v T hF (by omega), (words ⟨T, by omega⟩ h1 h2).2, pw_normal _ (by show 1 ≤ 253 - T; omega) (by show 253 - T ≤ 254; omega)]
  congr 2; simp only []; omega

/-- Scale and inverse scale of field 0 are one. -/
theorem kScale_zero (v : EReal) (hF : Field v 0) : kScale v = 1 := by
  unfold kScale kE
  rw [kT_eq v 0 hF (by omega)]
  exact (pw_normal 127 (by omega) (by omega)).trans (by norm_num)
theorem kInv_zero (v : EReal) (hF : Field v 0) : kInv v = 1 := by
  unfold kInv kE
  rw [kT_eq v 0 hF (by omega)]
  exact (pw_normal 127 (by omega) (by omega)).trans (by norm_num)

/-! ## Which field a number has -/

/-- Zero has field 0. -/
theorem field_zero : Field 0 0 := by
  intro n h1 h2
  constructor
  · intro h
    exfalso
    by_cases hn : n = 255
    · subst hn; rw [show BitVec.ofNat 32 255 = 255#32 from rfl, pw_255] at h; simp at h
    · rw [pw_normal n h1 (by omega)] at h
      have : (0 : ℝ) < (2 : ℝ) ^ ((n : ℤ) - 127) := by positivity
      have h' : (2 : ℝ) ^ ((n : ℤ) - 127) ≤ 0 := by exact_mod_cast h
      linarith
  · intro h; omega

/-- A real from `2^(T - 127)` to below `2^(T - 126)` has field `T`. -/
theorem field_real (r : ℝ) (T : ℕ) (h1 : (2 : ℝ) ^ ((T : ℤ) - 127) ≤ r) (h2 : r < (2 : ℝ) ^ ((T : ℤ) - 126)) (hT : T ≤ 254) :
    Field (r : EReal) T := by
  intro n hn1 hn2
  by_cases hn : n = 255
  · subst hn; rw [show BitVec.ofNat 32 255 = 255#32 from rfl, pw_255]
    constructor
    · intro h; simp at h
    · intro h; omega
  · rw [pw_normal n hn1 (by omega), EReal.coe_le_coe_iff]
    constructor
    · intro h
      have := lt_of_le_of_lt h h2
      rw [zpow_lt_zpow_iff_right₀ (by norm_num : (1 : ℝ) < 2)] at this
      omega
    · intro h
      refine le_trans ?_ h1
      rw [zpow_le_zpow_iff_right₀ (by norm_num : (1 : ℝ) < 2)]
      omega

/-- The precondition, of the largest activation `a`: zero, or `a / 57344` from `2^-126` to below `2^126`. -/
def InRange (a : EReal) : Prop :=
  a = 0 ∨ (FloatOps.ofBits (F := Ideal) .f32 0x00800000#32 ≤ a * FloatOps.ofBits (F := Ideal) .f32 0x37924925#32
    ∧ a * FloatOps.ofBits (F := Ideal) .f32 0x37924925#32 < FloatOps.ofBits (F := Ideal) .f32 0x7E800000#32)

/-- A number in that range has a field from 1 to 252, and is not zero. -/
theorem exists_field (v : EReal) (h1 : FloatOps.ofBits (F := Ideal) .f32 0x00800000#32 ≤ v)
    (h2 : v < FloatOps.ofBits (F := Ideal) .f32 0x7E800000#32) :
    ∃ T : ℕ, 1 ≤ T ∧ T ≤ 252 ∧ Field v T ∧ ∃ r : ℝ, v = (r : EReal) ∧ (2 : ℝ) ^ ((T : ℤ) - 127) ≤ r ∧ r < (2 : ℝ) ^ ((T : ℤ) - 126) := by
  have l : FloatOps.ofBits (F := Ideal) .f32 0x00800000#32 = (((2 : ℝ) ^ (-126 : ℤ) : ℝ) : EReal) :=
    (show FloatOps.ofBits (F := Ideal) .f32 0x00800000#32 = pw (BitVec.ofNat 32 1) from rfl).trans
      ((pw_normal 1 (by omega) (by omega)).trans (by norm_num))
  have u : FloatOps.ofBits (F := Ideal) .f32 0x7E800000#32 = (((2 : ℝ) ^ (126 : ℤ) : ℝ) : EReal) :=
    (show FloatOps.ofBits (F := Ideal) .f32 0x7E800000#32 = pw (BitVec.ofNat 32 253) from rfl).trans
      ((pw_normal 253 (by omega) (by omega)).trans (by norm_num))
  rw [l] at h1; rw [u] at h2
  induction v with
  | bot => simp at h1
  | top => simp at h2
  | coe r =>
    rw [EReal.coe_le_coe_iff] at h1
    rw [EReal.coe_lt_coe_iff] at h2
    have hr : 0 < r := lt_of_lt_of_le (by positivity) h1
    obtain ⟨k, hk1, hk2⟩ := exists_mem_Ico_zpow hr (by norm_num : (1 : ℝ) < 2)
    have a1 : (-126 : ℤ) < k + 1 := by
      have := lt_of_le_of_lt h1 hk2
      rwa [zpow_lt_zpow_iff_right₀ (by norm_num : (1 : ℝ) < 2)] at this
    have a2 : k < 126 := by
      have := lt_of_le_of_lt hk1 h2
      rwa [zpow_lt_zpow_iff_right₀ (by norm_num : (1 : ℝ) < 2)] at this
    have e : ((k + 127).toNat : ℤ) = k + 127 := Int.toNat_of_nonneg (by omega)
    have c1 : (2 : ℝ) ^ (((k + 127).toNat : ℤ) - 127) ≤ r := by rw [e]; simpa using hk1
    have c2 : r < (2 : ℝ) ^ (((k + 127).toNat : ℤ) - 126) := by
      rw [e]; rwa [show k + 127 - 126 = k + 1 by ring]
    exact ⟨(k + 127).toNat, by omega, by omega, field_real r _ c1 c2 (by omega), r, rfl, c1, c2⟩

/-! ## The reference's count -/

/-- The reference's `k`-th power of two, and the count of those at most `v`. -/
def rPow (k : Fin 256) : EReal :=
  FloatOps.exp2 (F := Ideal) (φ := .f32) (FloatOps.sitofp (F := Ideal) .f32 (IntOp.subi (BitVec.ofNat 32 k.val) 126#32))
def rCount (v : EReal) : EReal :=
  ∑ k : Fin 256, FloatOps.sitofp (F := Ideal) .f32 ((FloatOps.cmpf (F := Ideal) (φ := .f32) .ole (rPow k) v).setWidth 32)

/-- The reference's exponent. -/
def rE (a : EReal) : EReal :=
  Scalar.select (FloatOps.cmpf (F := Ideal) (φ := .f32) .oeq a (FloatOps.ofBits (F := Ideal) .f32 0x00000000#32))
    (FloatOps.ofBits (F := Ideal) .f32 0x00000000#32)
    (rCount (a * FloatOps.ofBits (F := Ideal) .f32 0x37924925#32) - FloatOps.ofBits (F := Ideal) .f32 0x42FC0000#32)

/-- The integer the power's exponent is. -/
theorem exponents : ∀ k : Fin 256, (IntOp.subi (BitVec.ofNat 32 k.val) 126#32).toInt = (k.val : ℤ) - 126 := by
  decide +kernel

theorem rPow_eq (k : Fin 256) : rPow k = (((2 : ℝ) ^ ((k.val : ℤ) - 126) : ℝ) : EReal) := by
  show Ideal.exp2 ((((IntOp.subi (BitVec.ofNat 32 k.val) 126#32).toInt : ℝ)) : EReal) = _
  rw [exponents]
  show ((Real.rpow 2 (((k.val : ℤ) - 126 : ℤ) : ℝ) : ℝ) : EReal) = _
  congr 1
  exact Real.rpow_intCast 2 _

/-- A finite sum of reals, among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The count is the field. -/
theorem rCount_eq (r : ℝ) (T : ℕ) (h1 : (2 : ℝ) ^ ((T : ℤ) - 127) ≤ r) (h2 : r < (2 : ℝ) ^ ((T : ℤ) - 126)) (hT : T ≤ 256) :
    rCount (r : EReal) = ((T : ℝ) : EReal) := by
  have hterm : ∀ k : Fin 256, FloatOps.sitofp (F := Ideal) .f32
      ((FloatOps.cmpf (F := Ideal) (φ := .f32) .ole (rPow k) (r : EReal)).setWidth 32) = (((if k.val < T then 1 else 0 : ℝ)) : EReal) := by
    intro k
    show (((((BitVec.ofBool (decide (rPow k ≤ (r : EReal)))).setWidth 32).toInt : ℝ)) : EReal) = _
    rw [rPow_eq]
    simp only [EReal.coe_le_coe_iff]
    by_cases hk : k.val < T
    · have h1' : (((BitVec.ofBool true).setWidth 32 : BitVec 32)).toInt = 1 := by decide
      have : (2 : ℝ) ^ ((k.val : ℤ) - 126) ≤ r := le_trans (by
        rw [zpow_le_zpow_iff_right₀ (by norm_num : (1 : ℝ) < 2)]; omega) h1
      rw [if_pos hk, decide_eq_true this, h1', Int.cast_one]
    · have : ¬ (2 : ℝ) ^ ((k.val : ℤ) - 126) ≤ r := not_le.2 (lt_of_lt_of_le h2 (by
        rw [zpow_le_zpow_iff_right₀ (by norm_num : (1 : ℝ) < 2)]; omega))
      rw [if_neg hk, decide_eq_false this]
      congr 1
      norm_num
  unfold rCount
  rw [Finset.sum_congr rfl fun k _ => hterm k, coe_sum]
  congr 1
  rw [Fin.sum_univ_eq_sum_range (fun k => if k < T then (1 : ℝ) else 0) 256, ← Finset.sum_filter]
  rw [Finset.sum_const, nsmul_eq_mul, mul_one]
  congr 1
  rw [show (Finset.range 256).filter (fun k => k < T) = Finset.range T from by
    ext k; simp only [Finset.mem_filter, Finset.mem_range]; omega, Finset.card_range]

theorem ofBits_zero : FloatOps.ofBits (F := Ideal) .f32 0x00000000#32 = 0 := by
  show Ideal.ofBits .f32 0x00000000#32 = 0
  simp [Ideal.ofBits, Ideal.ieee]

theorem ofBits_126 : FloatOps.ofBits (F := Ideal) .f32 0x42FC0000#32 = ((126 : ℝ) : EReal) := by
  show Ideal.ofBits .f32 0x42FC0000#32 = _
  simp [Ideal.ofBits, Ideal.ieee, -EReal.coe_mul]; norm_num

/-- The reference's exponent of a field from 1 to 252. -/
theorem rE_of_real (a : EReal) (r : ℝ) (T : ℕ) (ha : a ≠ 0) (e : a * FloatOps.ofBits (F := Ideal) .f32 0x37924925#32 = (r : EReal))
    (h1 : (2 : ℝ) ^ ((T : ℤ) - 127) ≤ r) (h2 : r < (2 : ℝ) ^ ((T : ℤ) - 126)) (hT : T ≤ 252) :
    rE a = ((((T : ℤ) - 126 : ℤ) : ℝ) : EReal) := by
  unfold rE
  rw [e, rCount_eq r T h1 h2 (by omega), ofBits_zero, ofBits_126]
  show Scalar.select (BitVec.ofBool (decide (a = 0))) _ _ = _
  rw [decide_eq_false ha]
  show (((T : ℝ) : EReal) - ((126 : ℝ) : EReal)) = _
  rw [← EReal.coe_sub]
  congr 1
  push_cast; ring

/-- The reference's exponent of zero is zero. -/
theorem rE_zero : rE 0 = 0 := by
  unfold rE
  rw [ofBits_zero]
  show Scalar.select (BitVec.ofBool (decide ((0 : EReal) = 0))) _ _ = _
  simp [Scalar.select]

/-! ## The two agree -/

theorem exp2_int (z : ℤ) : FloatOps.exp2 (F := Ideal) (φ := .f32) ((((z : ℤ) : ℝ)) : EReal) = (((2 : ℝ) ^ z : ℝ) : EReal) := by
  show ((Real.rpow 2 ((z : ℤ) : ℝ) : ℝ) : EReal) = _
  congr 1
  exact Real.rpow_intCast 2 _

/-- In range, both pairs of scales are the same. -/
theorem scales_eq (a : EReal) (h : InRange a) :
    kScale (a * FloatOps.ofBits (F := Ideal) .f32 0x37924925#32) = FloatOps.exp2 (F := Ideal) (φ := .f32) (rE a)
    ∧ kInv (a * FloatOps.ofBits (F := Ideal) .f32 0x37924925#32)
      = FloatOps.exp2 (F := Ideal) (φ := .f32) (FloatOps.ofBits (F := Ideal) .f32 0x00000000#32 - rE a) := by
  rcases h with h | ⟨h1, h2⟩
  · subst h
    rw [zero_mul, rE_zero, ofBits_zero, kScale_zero _ field_zero, kInv_zero _ field_zero, sub_zero]
    have : FloatOps.exp2 (F := Ideal) (φ := .f32) (0 : EReal) = 1 := by
      have := exp2_int 0
      simpa using this
    exact ⟨this.symm, this.symm⟩
  · obtain ⟨T, hT1, hT2, hF, r, hr, b1, b2⟩ := exists_field _ h1 h2
    have ha : a ≠ 0 := by
      rintro rfl
      rw [zero_mul] at hr
      have h0 : r = 0 := by exact_mod_cast hr.symm
      have : (0 : ℝ) < (2 : ℝ) ^ ((T : ℤ) - 127) := by positivity
      linarith
    rw [kScale_of_field _ T hF hT1 hT2, kInv_of_field _ T hF hT1 hT2, rE_of_real a r T ha hr b1 b2 hT2, ofBits_zero, zero_sub,
      ← EReal.coe_neg, ← Int.cast_neg, exp2_int, exp2_int]
    refine ⟨rfl, ?_⟩
    congr 2; omega

end Cert.Scale

end
-- ==== Proof.Maxima.lean ====
/- Largest values on extended reals: what a maximum over any set of axes is bounded by, and that a largest value depends only
   on the values, not on how they are laid out or in which order they are taken. -/
module

public import Idealize.ShloMosaic.PureOps.Ideal
public import Idealize.ShloMosaic.PureOps.Ideal.Laws
public import Idealize.ShloMosaic.PureOps.Reduce
public import Idealize.ShloMosaic.Lib.ValueIdx
public import Idealize.ShloMosaic.Lib.Pointwise.Reduce

@[expose] public section

noncomputable section

namespace Cert.Maxima

open Idealize.ShloMosaic
open scoped BigOperators

/-- `a` is the least bound of the values `f`. -/
def IsMax {ι : Type} (a : EReal) (f : ι → EReal) : Prop := ∀ b : EReal, a ≤ b ↔ ∀ i, f i ≤ b

/-- There is only one. -/
theorem IsMax.unique {ι : Type} {a a' : EReal} {f : ι → EReal} (h : IsMax a f) (h' : IsMax a' f) : a = a' :=
  eq_of_forall_ge_iff fun b => (h b).trans (h' b).symm

/-- It does not depend on the layout. -/
theorem IsMax.reindex {ι κ : Type} {a : EReal} {f : ι → EReal} (h : IsMax a f) (e : κ ≃ ι) : IsMax a fun k => f (e k) :=
  fun b => (h b).trans e.surjective.forall

/-- The initial values of the maxima are the least extended real. -/
theorem neg_inf_bf16 : FloatOps.ofBits (F := Ideal) .bf16 0xFF80#16 = ⊥ := by
  show Ideal.ofBits .bf16 0xFF80#16 = ⊥
  simp [Ideal.ofBits, Ideal.ieee]
theorem neg_inf_f32 : FloatOps.ofBits (F := Ideal) .f32 0xFF800000#32 = ⊥ := by
  show Ideal.ofBits .f32 0xFF800000#32 = ⊥
  simp [Ideal.ofBits, Ideal.ieee]

/-- A fold of the maximum from the least extended real. -/
theorem fold_le {ι : Type} (s : Finset ι) (f : ι → EReal) (z b : EReal) (hz : z = ⊥) :
    s.fold (max : EReal → EReal → EReal) z f ≤ b ↔ ∀ i ∈ s, f i ≤ b := by
  rw [Finset.fold_max_le, hz]
  exact and_iff_right bot_le

/-- A maximum along axes is bounded by what bounds the values it is taken over. -/
theorem multiReduction_le {φ : FTy} {s t : Shape} {axes : List (Fin s.rank)} (src : FVec Ideal s φ) (acc : BitVec φ.bits)
    (h : s.Reduces axes t) (hφ : FKind.Formats φ) (hacc : acc = FKind.maximumf.neutral φ hφ)
    (hz : FloatOps.ofBits (F := Ideal) φ acc = ⊥) (j : t.Idx) (b : EReal) :
    multiReduction .maximumf axes t src acc h hφ hacc j ≤ b ↔ ∀ i, h.drop i = j → src i ≤ b := by
  rw [multiReduction_maximumf_eq_fold]
  refine (fold_le _ _ _ b hz).trans ?_
  simp only [Finset.mem_filter, Finset.mem_univ, true_and]

/-- The same of the host's maximum. -/
theorem hostReduce_le {φ : FTy} {s t u : Shape} {axes : List (Fin s.rank)} (src : FVec Ideal s φ) (init : u.Idx → EReal)
    (h : s.ReducesTo axes t) (hu : 0 < u.numel) (hz : init (Shape.Idx.first hu) = ⊥) (j : t.Idx) (b : EReal) :
    (Host.reduce (FloatOps.maximumf (F := Ideal) (φ := φ)) src init h hu j : EReal) ≤ b ↔ ∀ i, h.drop i = j → src i ≤ b := by
  rw [Host.reduce_eq_fold]
  refine (fold_le _ _ _ b hz).trans ?_
  simp only [Finset.mem_filter, Finset.mem_univ, true_and]

/-- A reshape has the values of its operand. -/
theorem shapeCast_le {s t : Shape} (v : s.Idx → EReal) (h : s.ShapeCasts t) (b : EReal) :
    (∀ j, shapeCast t v h j ≤ b) ↔ ∀ i, v i ≤ b :=
  ((Shape.reshapeEquiv h).surjective.forall (p := fun i => v i ≤ b)).symm

end Cert.Maxima

end
-- ==== Proof.KernelIdealPayloads.lean ====
/- What the three bodies compute, entry by entry, on extended reals. -/
module

public import proofs.«01_k».proof.Proof.Gen.KernelIdeal.Skeleton
public import proofs.«01_k».proof.Proof.ScaleMath
public import proofs.«01_k».proof.Proof.Maxima
public import Idealize.ShloMosaic.Lib.Pipeline.Value
public import Idealize.ShloMosaic.Lib.MatmulPlain

@[expose] public section

noncomputable section

namespace Cert.KernelIdeal.Gen

open Idealize.ShloMosaic hiding ix2
open Cert.Scale Cert.Maxima Idealize.ShloMosaic.ValueIdx
open Cert.KernelIdeal

/-! ## The first body: the largest activation and the scales -/

/-- A broadcast's or a reshape's entry is one of its operand's. -/
theorem broadcastTo_mem {α : Type} {s t : Shape} (x : s.Idx → α) (h : s.Broadcasts t) (i : t.Idx) : ∃ k, broadcastTo t x h i = x k := ⟨_, rfl⟩
theorem shapeCast_mem {α : Type} {s t : Shape} (x : s.Idx → α) (h : s.ShapeCasts t) (i : t.Idx) : ∃ k, shapeCast t x h i = x k := ⟨_, rfl⟩

/-- What a one-entry vector widened, reshaped and broadcast holds is an entry of it. -/
theorem spread_mem (v : FVec Ideal S1 .bf16) (i : S8x128.Idx) : ∃ j : S1.Idx, (broadcastTo S8x128 (shapeCast S1x1
    (extf .f32 (shapeCast S1x1 v shapeCasts_S1_S1x1 : FVec Ideal S1x1 .bf16) bitsLt_bf16_f32) shapeCasts_S1x1_S1x1) broadcasts_S1x1_S8x128 i : EReal)
    = v j := ⟨_, rfl⟩

/-- Every entry of the block's maximum is an entry of the maximum of the columns' maxima. -/
theorem k0_pay1_mem (v0 : Vec Ideal S256x8192 .bf16) (i : S8x128.Idx) : ∃ j : S1.Idx, (k0_pay1 v0 i : EReal)
    = multiReduction .maximumf [1] S1 (shapeCast S1x8192 (multiReduction .maximumf [0] S8192
        (absf (shapeCast S256x8192 v0 shapeCasts_S256x8192_S256x8192) : FVec Ideal S256x8192 .bf16) 0xFF80#16
        reduces_S256x8192_S8192 (.inr rfl) rfl) shapeCasts_S8192_S1x8192) 0xFF80#16 reduces_S1x8192_S1 (.inr rfl) rfl j := by
  unfold k0_pay1
  exact spread_mem _ i

/-- Every entry of the block's maximum is the largest absolute value of the block. -/
theorem k0_pay1_le (v0 : Vec Ideal S256x8192 .bf16) (i : S8x128.Idx) (b : EReal) :
    k0_pay1 v0 i ≤ b ↔ ∀ j, FloatOps.absf (F := Ideal) (φ := .bf16) (v0 j) ≤ b := by
  obtain ⟨j, e⟩ := k0_pay1_mem v0 i
  rw [e, shapeCast_self]
  refine (multiReduction_le _ _ _ _ _ neg_inf_bf16 j b).trans ?_
  have hs : ∀ k : S1.Idx, k = j := fun k => funext fun a => match a with | ⟨0, _⟩ => Subsingleton.elim (α := Fin 1) _ _
  constructor
  · intro h k
    have h' := (shapeCast_le _ _ b).1 fun i => h i (hs _)
    exact (multiReduction_le _ _ _ _ _ neg_inf_bf16 _ b).1 (h' (reduces_S256x8192_S8192.drop k)) k rfl
  · intro h k _
    exact (shapeCast_le _ _ b).2 (fun l => (multiReduction_le _ _ _ _ _ neg_inf_bf16 l b).2 fun n _ => h n) k

/-- The scratch after the first point. -/
theorem k0_pay2_eq (v0 : Vec Ideal S256x8192 .bf16) : k0_pay2 v0 = k0_pay1 v0 := by
  unfold k0_pay2; exact shapeCast_self _ _

/-- The scratch after a later point. -/
theorem k0_pay3_apply (v0 : Vec Ideal S256x8192 .bf16) (v19 : Vec Ideal S8x128 .f32) (i : S8x128.Idx) :
    k0_pay3 v0 v19 i = max (v19 i) (k0_pay1 v0 i) := by
  unfold k0_pay3; rw [shapeCast_self]; rfl

/-- The scale and its inverse, of the largest activation. -/
theorem scale_apply (v : Vec Ideal S8x128 .f32) (i : S8x128.Idx) :
    k0_pay5 (k0_pay7 v) (k0_pay8 v) (k0_pay9 v) (k0_pay10 v) i = kScale (v i * FloatOps.ofBits (F := Ideal) .f32 0x37924925#32) := rfl
theorem inv_apply (v : Vec Ideal S8x128 .f32) (i : S8x128.Idx) :
    k0_pay6 (k0_pay7 v) (k0_pay8 v) (k0_pay9 v) (k0_pay10 v) i = kInv (v i * FloatOps.ofBits (F := Ideal) .f32 0x37924925#32) := rfl

/-! ## The second body: the codes -/

/-- The code of the activation `x` under the inverse scale `s`. -/
def code (x s : EReal) : EReal :=
  min (FloatOps.ofBits (F := Ideal) .f32 0x47600000#32) (max (FloatOps.ofBits (F := Ideal) .f32 0xC7600000#32) (x * s))

theorem k1_pay1_apply (v0 : Vec Ideal S256x8192 .bf16) (v2 : Vec Ideal S1x1 .f32) (i : S256x8192.Idx) :
    k1_pay1 v0 v2 i = code (v0 i) (v2 (ix2 0 0)) := by
  unfold k1_pay1
  simp only [shapeCast_self]
  show min _ (max _ (v0 i * broadcastTo S256x8192 (truncf .bf16 v2 bitsLt_bf16_f32 : FVec Ideal S1x1 .bf16) broadcasts_S1x1_S256x8192 i)) = _
  rw [broadcastTo_apply (truncf .bf16 v2 bitsLt_bf16_f32 : FVec Ideal S1x1 .bf16) broadcasts_S1x1_S256x8192 i (ix2 0 0)
    (fun a => by match a with | ⟨0, _⟩ => rfl | ⟨1, _⟩ => rfl)]
  rfl

/-! ## The third body: the product -/

theorem dot_eq : dot_S1024x8192_S1024x8192_S1024x1024_1_1_0_0_n_n = DotDims.transposedRhs 1024 8192 1024 := rfl

theorem k2_pay1_apply (v0 : Vec Ideal S1024x8192 .fp8e5m2) (v2 : Vec Ideal S1024x8192 .fp8e4m3) (v4 : Vec Ideal S1x1 .f32)
    (v8 : Vec Ideal S1x1024 .f32) (r c : Fin 1024) :
    k2_pay1 v0 v2 v4 v8 (ix2 r c) = (∑ k : Fin 8192, v0 (ix2 r k) * v2 (ix2 c k)) * v4 (ix2 0 0) * v8 (ix2 0 c) := by
  unfold k2_pay1
  simp only [shapeCast_self]
  show (FloatOps.matmul (F := Ideal) _ _ v0 v2 _ (ix2 r c) * broadcastTo S1024x1024 v4 broadcasts_S1x1_S1024x1024 (ix2 r c))
    * broadcastTo S1024x1024 v8 broadcasts_S1x1024_S1024x1024 (ix2 r c) = _
  rw [broadcastTo_apply v4 broadcasts_S1x1_S1024x1024 (ix2 r c) (ix2 0 0)
    (fun a => by match a with | ⟨0, _⟩ => rfl | ⟨1, _⟩ => rfl),
    broadcastTo_apply v8 broadcasts_S1x1024_S1024x1024 (ix2 r c) (ix2 0 c)
    (fun a => by match a with | ⟨0, _⟩ => rfl | ⟨1, _⟩ => rfl), dot_eq, Ideal.matmul_transposedRhs_apply]
  have hz : (constant S1024x1024 .f32 0x00000000#32 : FVec Ideal S1024x1024 .f32) (ix2 r c) = 0 := ofBits_zero
  rw [hz, zero_add]

end Cert.KernelIdeal.Gen

end
-- ==== Proof.KernelIdealAmaxValue.lean ====
/- The first call on extended reals: after point `n` the scratch holds, in every entry, the largest absolute value of the
   blocks read so far; the two outputs end as the scale and the inverse scale of the largest absolute value of the array. -/
module

public import proofs.«01_k».proof.Proof.KernelIdealAmaxFrame
public import proofs.«01_k».proof.Proof.KernelIdealPayloads
public import Idealize.ShloMosaic.Lib.Pipeline.Value
public import Idealize.ShloMosaic.Lib.VecWindow

@[expose] public section

set_option maxRecDepth 16384

noncomputable section

namespace Cert.KernelIdeal.Run

open Cert.KernelIdeal Cert.KernelIdeal.Gen
open Idealize.ShloMosaic hiding ix2
open Idealize.ShloMosaic.TcCoe Cert.Scale Cert.Maxima Idealize.ShloMosaic.ValueIdx
open Idealize.SL.RA
open Idealize.ShloMosaic.Pipeline (Dat Cfg Window BodyObligation cellOf)

/-! ## The pieces a body leaves are its payloads -/

section Pieces

variable {F : FTy → Type} [FloatOps F]

/-- A load of a whole buffer reads the buffer. -/
theorem load_whole {s : Shape} {e : EltTy} {sp : Space} (m : Memref sig .tc sp s e) (hm : m.IsWhole) (x : s.Idx → Elt F e) {off : Fin s.rank → ℕ}
    (inb : ∀ a, off a + s.size a ≤ s.size a) :
    View.readAt (Elt F) m.view (Rect.unit off s.size inb).toLoadRect (hm.unread x) = x :=
  (View.readAt_full _ _ _).trans (hm.read_unread x)

/-- The scratch after the first point: the block's maximum. -/
theorem sout0_A_0_eq (c : Dev nD) (i : grid0.Coords) (arg1 : Memref sig .tc .vmem S256x8192 .bf16) (harg1 : arg1.IsWhole) (arg2 : Memref sig .tc .vmem S8x128 .f32) (harg2 : arg2.IsWhole)
    (arg3 : Memref sig .tc .vmem S8x128 .f32) (harg3 : arg3.IsWhole) (arg4 : Memref sig .tc .vmem S8x128 .f32) (harg4 : arg4.IsWhole) (hc0 : cond0_0 i) (hc1 : ¬cond0_1 i) (hc2 : ¬cond0_2 i)
    (x0 : Vec F S256x8192 .bf16) : sout0_A_0 c i arg1 harg1 arg2 harg2 arg3 harg3 arg4 harg4 hc0 hc1 hc2 x0 = k0_pay2 x0 := by
  unfold sout0_A_0
  dsimp only [kernelRun0_A]
  exact (View.read_writes_full _ _ _ _ _).trans (congrArg k0_pay2 (load_whole arg1 harg1 x0 _))

/-- After a middle point: the larger of what it held and the block's maximum. -/
theorem sout0_B_0_eq (c : Dev nD) (i : grid0.Coords) (arg1 : Memref sig .tc .vmem S256x8192 .bf16) (harg1 : arg1.IsWhole) (arg2 : Memref sig .tc .vmem S8x128 .f32) (harg2 : arg2.IsWhole)
    (arg3 : Memref sig .tc .vmem S8x128 .f32) (harg3 : arg3.IsWhole) (arg4 : Memref sig .tc .vmem S8x128 .f32) (harg4 : arg4.IsWhole) (hc0 : ¬cond0_0 i) (hc1 : cond0_1 i) (hc2 : ¬cond0_2 i)
    (x0 : Vec F S256x8192 .bf16) (xs0 : Vec F S8x128 .f32) : sout0_B_0 c i arg1 harg1 arg2 harg2 arg3 harg3 arg4 harg4 hc0 hc1 hc2 x0 xs0 = k0_pay3 x0 xs0 := by
  unfold sout0_B_0
  dsimp only [kernelRun0_B]
  exact (View.read_writes_full _ _ _ _ _).trans (congrArg₂ k0_pay3 (load_whole arg1 harg1 x0 _) (load_whole arg4 harg4 xs0 _))

/-- What the last point's body reads back from the scratch after its update. -/
theorem v19_eq (c : Dev nD) (arg1 : Memref sig .tc .vmem S256x8192 .bf16) (harg1 : arg1.IsWhole) (arg4 : Memref sig .tc .vmem S8x128 .f32)
    (harg4 : arg4.IsWhole) (x0 : Vec F S256x8192 .bf16) (xs0 : Vec F S8x128 .f32) :
    kernelRun0_C.sl.v19 c arg1 harg1 arg4 harg4 x0 xs0 = k0_pay3 x0 xs0 := by
  unfold kernelRun0_C.sl.v19
  dsimp only [kernelRun0_C.sl.HS0_1]
  exact (View.readCov_full _ _ _ _ _).trans (congrArg₂ k0_pay3 (load_whole arg1 harg1 x0 _) (load_whole arg4 harg4 xs0 _))

/-- The outputs at the last point: scale and inverse scale of the scratch after that point. -/
theorem out0_C_1_eq (c : Dev nD) (i : grid0.Coords) (arg1 : Memref sig .tc .vmem S256x8192 .bf16) (harg1 : arg1.IsWhole) (arg2 : Memref sig .tc .vmem S8x128 .f32) (harg2 : arg2.IsWhole)
    (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : out0_C_1 c i arg1 harg1 arg2 harg2 arg3 harg3 arg4 harg4 hc0 hc1 hc2 x0 xs0
      = k0_pay5 (k0_pay7 (k0_pay3 x0 xs0)) (k0_pay8 (k0_pay3 x0 xs0)) (k0_pay9 (k0_pay3 x0 xs0)) (k0_pay10 (k0_pay3 x0 xs0)) := by
  unfold out0_C_1
  dsimp only [kernelRun0_C, kernelRun0_C.sl.r, kernelRun0_C.sl.r_1, kernelRun0_C.sl.r_2, kernelRun0_C.sl.r_3]
  rw [v19_eq]
  exact View.read_writes_full _ _ _ _ _
theorem out0_C_2_eq (c : Dev nD) (i : grid0.Coords) (arg1 : Memref sig .tc .vmem S256x8192 .bf16) (harg1 : arg1.IsWhole) (arg2 : Memref sig .tc .vmem S8x128 .f32) (harg2 : arg2.IsWhole)
    (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : out0_C_2 c i arg1 harg1 arg2 harg2 arg3 harg3 arg4 harg4 hc0 hc1 hc2 x0 xs0
      = k0_pay6 (k0_pay7 (k0_pay3 x0 xs0)) (k0_pay8 (k0_pay3 x0 xs0)) (k0_pay9 (k0_pay3 x0 xs0)) (k0_pay10 (k0_pay3 x0 xs0)) := by
  unfold out0_C_2
  dsimp only [kernelRun0_C, kernelRun0_C.sl.r, kernelRun0_C.sl.r_1, kernelRun0_C.sl.r_2, kernelRun0_C.sl.r_3]
  rw [v19_eq]
  exact View.read_writes_full _ _ _ _ _

/-- The scratch after the last point. -/
theorem sout0_C_0_eq (c : Dev nD) (i : grid0.Coords) (arg1 : Memref sig .tc .vmem S256x8192 .bf16) (harg1 : arg1.IsWhole) (arg2 : Memref sig .tc .vmem S8x128 .f32) (harg2 : arg2.IsWhole)
    (arg3 : Memref sig .tc .vmem S8x128 .f32) (harg3 : arg3.IsWhole) (arg4 : Memref sig .tc .vmem S8x128 .f32) (harg4 : arg4.IsWhole) (hc0 : ¬cond0_0 i) (hc1 : cond0_1 i) (hc2 : cond0_2 i)
    (x0 : Vec F S256x8192 .bf16) (xs0 : Vec F S8x128 .f32) : sout0_C_0 c i arg1 harg1 arg2 harg2 arg3 harg3 arg4 harg4 hc0 hc1 hc2 x0 xs0 = k0_pay3 x0 xs0 := by
  unfold sout0_C_0
  dsimp only [kernelRun0_C, kernelRun0_C.sl.HS0_1]
  exact (View.read_writes_full _ _ _ _ _).trans (congrArg₂ k0_pay3 (load_whole arg1 harg1 x0 _) (load_whole arg4 harg4 xs0 _))

end Pieces

/-! ## The running maximum -/

variable (V : (c : Dev nD) → (b : Ref sig .tc) → Buf (Elt Ideal) ((c : Thread nD τ).loc b))

/-- The scratch after point `n`. -/
def scr (c : Dev nD) (n : ℕ) (hn : n < cfg0.N) : Vec Ideal S8x128 .f32 := (outsAt0 V c n hn).2.2

theorem scr_zero (c : Dev nD) (hn : 0 < cfg0.N) : scr V c 0 hn = k0_pay2 (iblk0 V c 0 ⟨0, hn⟩) := by
  unfold scr
  rw [outsAt0_A V c ⟨0, hn⟩ (Nat.zero_mod _) (by simp) (by simp)]
  dsimp only
  exact sout0_A_0_eq (F := Ideal) _ _ _ _ _ _ _ _ _ _ _ _ _ _

theorem scr_succ (c : Dev nD) (n : ℕ) (hn : n + 1 < cfg0.N) :
    scr V c (n + 1) hn = k0_pay3 (iblk0 V c 0 ⟨n + 1, hn⟩) (scr V c n (Nat.lt_of_succ_lt hn)) := by
  have hN : n + 1 < 48 := lt_of_lt_of_eq hn (show cfg0.N = 48 from N_0)
  unfold scr
  by_cases h : (n + 1) % 48 = 47
  · rw [outsAt0_C V c ⟨n + 1, hn⟩ (by show ¬(n + 1) % 48 = 0; omega) (by show 1 ≤ n + 1; omega) h]
    dsimp only
    exact sout0_C_0_eq (F := Ideal) _ _ _ _ _ _ _ _ _ _ _ _ _ _ _
  · rw [outsAt0_B V c ⟨n + 1, hn⟩ (by show ¬(n + 1) % 48 = 0; omega) (by show 1 ≤ n + 1; omega) h]
    dsimp only
    exact sout0_B_0_eq (F := Ideal) _ _ _ _ _ _ _ _ _ _ _ _ _ _ _

/-- The scratch after point `n` is bounded by what bounds the blocks up to `n`. -/
theorem scr_le (c : Dev nD) (i : S8x128.Idx) (b : EReal) : ∀ (n : ℕ) (hn : n < cfg0.N), scr V c n hn i ≤ b ↔
    ∀ (t : Fin cfg0.N), t.val ≤ n → ∀ j : S256x8192.Idx, FloatOps.absf (F := Ideal) (φ := .bf16) (iblk0 V c 0 t j) ≤ b := by
  intro n
  induction n with
  | zero =>
    intro hn
    rw [scr_zero, k0_pay2_eq, k0_pay1_le]
    constructor
    · intro h t ht
      have e : t = ⟨0, hn⟩ := Fin.ext (Nat.le_zero.1 ht)
      subst e; exact h
    · intro h; exact h ⟨0, hn⟩ (le_refl _)
  | succ n ih =>
    intro hn
    rw [scr_succ, k0_pay3_apply, max_le_iff, ih, k0_pay1_le]
    constructor
    · rintro ⟨h1, h2⟩ t ht
      by_cases e : t.val = n + 1
      · have e' : t = ⟨n + 1, hn⟩ := Fin.ext e
        subst e'; exact h2
      · exact h1 t (by omega)
    · intro h
      exact ⟨fun t ht => h t (by omega), h ⟨n + 1, hn⟩ (le_refl _)⟩

/-! ## The whole array -/

/-- Point `t` reads rows `256 t` to `256 t + 255`, every column. -/
theorem index0_0 : ∀ t : Fin cfg0.N, win0_0.index t (0 : Fin 2) = t.val ∧ win0_0.index t (1 : Fin 2) = 0 :=
  (by decide +kernel : ∀ t : Fin grid0.N, _)

/-- The array's entry at a point's block. -/
theorem iblk0_emb (c : Dev nD) (t : Fin cfg0.N) (j : S256x8192.Idx) :
    iblk0 V c 0 t j = V c main_v0 (((cfg0.win 0).blk t).view.emb j) := rfl

/-- Every entry of the array lies in the block of the point its row names. -/
theorem emb0_0 (t : Fin cfg0.N) (p : S12288x8192.Idx) (h : (p 0).val / 256 = t.val) :
    ∃ j : S256x8192.Idx, ((cfg0.win 0).blk t).view.emb j = p := by
  obtain ⟨e0, e1⟩ := index0_0 t
  let j : S256x8192.Idx := ix2 (⟨(p 0).val % 256, Nat.mod_lt _ (by decide)⟩ : Fin 256) (⟨(p 1).val, (p 1).isLt⟩ : Fin 8192)
  have hb0 : (((cfg0.win 0).blk t).view.emb j 0).val = win0_0.index t (0 : Fin 2) * 256 + 1 * ((p 0).val % 256) := rfl
  have hb1 : (((cfg0.win 0).blk t).view.emb j 1).val = win0_0.index t (1 : Fin 2) * 8192 + 1 * (p 1).val := rfl
  refine ⟨j, ?_⟩
  funext a; apply Fin.ext
  match a with
  | ⟨0, _⟩ => show (((cfg0.win 0).blk t).view.emb j 0).val = (p 0).val; rw [hb0, e0]; omega
  | ⟨1, _⟩ => show (((cfg0.win 0).blk t).view.emb j 1).val = (p 1).val; rw [hb1, e1]; omega

/-- The scratch after the last point holds the array's largest absolute value. -/
theorem scr_last (c : Dev nD) (n : ℕ) (hn : n < cfg0.N) (h47 : n = 47) (i : S8x128.Idx) :
    IsMax (scr V c n hn i) fun p : S12288x8192.Idx => FloatOps.absf (F := Ideal) (φ := .bf16) (V c main_v0 p) := by
  intro b
  rw [scr_le]
  constructor
  · intro h p
    have hp0 : (p 0).val < 12288 := (p 0).isLt
    have hN : cfg0.N = 48 := N_0
    have ht : (p 0).val / 256 < cfg0.N := by omega
    obtain ⟨j, hj⟩ := emb0_0 ⟨(p 0).val / 256, ht⟩ p rfl
    have h' := h ⟨(p 0).val / 256, ht⟩ (by show (p 0).val / 256 ≤ n; omega) j
    rw [iblk0_emb, hj] at h'
    exact h'
  · intro h t _ j
    exact h (((cfg0.win 0).blk t).view.emb j)

/-! ## The two outputs -/

/-- Output 1 at the last point, in the scratch after it. -/
theorem outs_scr_1 (c : Dev nD) (n : ℕ) (hn : n + 1 < cfg0.N) (h : (n + 1) % 48 = 47) : (outsAt0 V c (n + 1) hn).1
    = k0_pay5 (k0_pay7 (scr V c (n + 1) hn)) (k0_pay8 (scr V c (n + 1) hn)) (k0_pay9 (scr V c (n + 1) hn)) (k0_pay10 (scr V c (n + 1) hn)) := by
  have hN : n + 1 < 48 := lt_of_lt_of_eq hn (show cfg0.N = 48 from N_0)
  rw [scr_succ]
  unfold scr
  rw [outsAt0_C V c ⟨n + 1, hn⟩ (by show ¬(n + 1) % 48 = 0; omega) (by show 1 ≤ n + 1; omega) h]
  dsimp only
  exact out0_C_1_eq (F := Ideal) _ _ _ _ _ _ _ _ _ _ _ _ _ _ _

/-- Output 2 at the last point, in the scratch after it. -/
theorem outs_scr_2 (c : Dev nD) (n : ℕ) (hn : n + 1 < cfg0.N) (h : (n + 1) % 48 = 47) : (outsAt0 V c (n + 1) hn).2.1
    = k0_pay6 (k0_pay7 (scr V c (n + 1) hn)) (k0_pay8 (scr V c (n + 1) hn)) (k0_pay9 (scr V c (n + 1) hn)) (k0_pay10 (scr V c (n + 1) hn)) := by
  have hN : n + 1 < 48 := lt_of_lt_of_eq hn (show cfg0.N = 48 from N_0)
  rw [scr_succ]
  unfold scr
  rw [outsAt0_C V c ⟨n + 1, hn⟩ (by show ¬(n + 1) % 48 = 0; omega) (by show 1 ≤ n + 1; omega) h]
  dsimp only
  exact out0_C_2_eq (F := Ideal) _ _ _ _ _ _ _ _ _ _ _ _ _ _ _

/-- The outputs after the last point. -/
theorem outs_last (c : Dev nD) (t : Fin cfg0.N) (ht : t.val % 48 = 47) (a : EReal)
    (ha : IsMax a fun p : S12288x8192.Idx => FloatOps.absf (F := Ideal) (φ := .bf16) (V c main_v0 p)) (y : S8x128.Idx) :
    (outsAt0 V c t.val t.isLt).1 y = kScale (a * FloatOps.ofBits (F := Ideal) .f32 0x37924925#32)
    ∧ (outsAt0 V c t.val t.isLt).2.1 y = kInv (a * FloatOps.ofBits (F := Ideal) .f32 0x37924925#32) := by
  have hN : cfg0.N = 48 := N_0
  obtain ⟨k, hk⟩ := t
  obtain ⟨n, rfl⟩ : ∃ n, k = n + 1 := ⟨k - 1, by dsimp only at ht; omega⟩
  have hy : scr V c (n + 1) hk y = a :=
    (scr_last V c (n + 1) hk (by dsimp only at ht; omega) y).unique ha
  constructor
  · refine (congrFun (outs_scr_1 V c n hk ht) y).trans ((scale_apply _ y).trans ?_)
    rw [hy]
  · refine (congrFun (outs_scr_2 V c n hk ht) y).trans ((inv_apply _ y).trans ?_)
    rw [hy]

theorem index0_1 : ∀ t : Fin cfg0.N, win0_1.index t (0 : Fin 2) = 0 ∧ win0_1.index t (1 : Fin 2) = 0 :=
  (by decide +kernel : ∀ t : Fin grid0.N, _)

/-- An index of output 1 is in a point's block iff each coordinate is in the block's range. -/
theorem mem_blk0_1 (t : Fin cfg0.N) (i : S8x128.Idx) : i ∈ ((cfg0.win 1).blk t).view.set ↔
    ∀ a : Fin 2, win0_1.index t a * S8x128.size a ≤ (i a).val ∧ (i a).val < win0_1.index t a * S8x128.size a + S8x128.size a := by
  show i ∈ ((View.whole main_v2_0).slice (win0_1.rect t)).set ↔ _
  rw [View.set_slice_whole, Rect.mem_set_unit]
  exact Iff.rfl

/-- Output 1 after the call. -/
theorem final0_1 (c : Dev nD) (a : EReal)
    (ha : IsMax a fun p : S12288x8192.Idx => FloatOps.absf (F := Ideal) (φ := .bf16) (V c main_v0 p)) :
    (dat0 V c).arrAt 1 cfg0.N = fun _ => kScale (a * FloatOps.ofBits (F := Ideal) .f32 0x37924925#32) := by
  refine (dat0 V c).arrAt_eq_of_cover 1 _ (fun t hf => ?_) (fun i => ?_)
  · show (cfg0.win 1).cut (grid0.coords t) ((dat0 V c).after 1 t) = _
    rw [after0_1]
    funext y
    exact (outs_last V c t ((flush0_1 t).mp hf) a ha _).left
  · have hN : cfg0.N = 48 := N_0
    refine ⟨⟨47, by omega⟩, (flush0_1 _).mpr rfl, ?_⟩
    rw [mem_blk0_1]
    obtain ⟨e0, e1⟩ := index0_1 ⟨47, by omega⟩
    intro b
    match b with
    | ⟨0, _⟩ => have h : (i 0).val < 8 := (i 0).isLt; show win0_1.index _ (0 : Fin 2) * 8 ≤ (i 0).val ∧ (i 0).val < win0_1.index _ (0 : Fin 2) * 8 + 8; omega
    | ⟨1, _⟩ => have h : (i 1).val < 128 := (i 1).isLt; show win0_1.index _ (1 : Fin 2) * 128 ≤ (i 1).val ∧ (i 1).val < win0_1.index _ (1 : Fin 2) * 128 + 128; omega

theorem index0_2 : ∀ t : Fin cfg0.N, win0_2.index t (0 : Fin 2) = 0 ∧ win0_2.index t (1 : Fin 2) = 0 :=
  (by decide +kernel : ∀ t : Fin grid0.N, _)

/-- An index of output 2 is in a point's block iff each coordinate is in the block's range. -/
theorem mem_blk0_2 (t : Fin cfg0.N) (i : S8x128.Idx) : i ∈ ((cfg0.win 2).blk t).view.set ↔
    ∀ a : Fin 2, win0_2.index t a * S8x128.size a ≤ (i a).val ∧ (i a).val < win0_2.index t a * S8x128.size a + S8x128.size a := by
  show i ∈ ((View.whole main_v2_1).slice (win0_2.rect t)).set ↔ _
  rw [View.set_slice_whole, Rect.mem_set_unit]
  exact Iff.rfl

/-- Output 2 after the call. -/
theorem final0_2 (c : Dev nD) (a : EReal)
    (ha : IsMax a fun p : S12288x8192.Idx => FloatOps.absf (F := Ideal) (φ := .bf16) (V c main_v0 p)) :
    (dat0 V c).arrAt 2 cfg0.N = fun _ => kInv (a * FloatOps.ofBits (F := Ideal) .f32 0x37924925#32) := by
  refine (dat0 V c).arrAt_eq_of_cover 2 _ (fun t hf => ?_) (fun i => ?_)
  · show (cfg0.win 2).cut (grid0.coords t) ((dat0 V c).after 2 t) = _
    rw [after0_2]
    funext y
    exact (outs_last V c t ((flush0_2 t).mp hf) a ha _).right
  · have hN : cfg0.N = 48 := N_0
    refine ⟨⟨47, by omega⟩, (flush0_2 _).mpr rfl, ?_⟩
    rw [mem_blk0_2]
    obtain ⟨e0, e1⟩ := index0_2 ⟨47, by omega⟩
    intro b
    match b with
    | ⟨0, _⟩ => have h : (i 0).val < 8 := (i 0).isLt; show win0_2.index _ (0 : Fin 2) * 8 ≤ (i 0).val ∧ (i 0).val < win0_2.index _ (0 : Fin 2) * 8 + 8; omega
    | ⟨1, _⟩ => have h : (i 1).val < 128 := (i 1).isLt; show win0_2.index _ (1 : Fin 2) * 128 ≤ (i 1).val ∧ (i 1).val < win0_2.index _ (1 : Fin 2) * 128 + 128; omega

end Cert.KernelIdeal.Run

end
-- ==== Proof.KernelIdealCodesValue.lean ====
/- The second call on extended reals: with the inverse scale `s` in every entry of its small operand, it leaves in the codes'
   array, at every index, the clamped product of the activation there and `s`. -/
module

public import proofs.«01_k».proof.Proof.KernelIdealBlocks
public import proofs.«01_k».proof.Proof.KernelIdealPayloads
public import Idealize.ShloMosaic.Lib.Pipeline.Value
public import Idealize.ShloMosaic.Lib.VecWindow

@[expose] public section

set_option maxRecDepth 16384

noncomputable section

namespace Cert.KernelIdeal.Run

open Cert.KernelIdeal Cert.KernelIdeal.Gen
open Idealize.ShloMosaic hiding ix2
open Idealize.ShloMosaic.TcCoe Idealize.ShloMosaic.ValueIdx
open Idealize.SL.RA
open Idealize.ShloMosaic.Pipeline (Dat Cfg Window BodyObligation cellOf)

variable (V : (c : Dev nD) → (b : Ref sig .tc) → Buf (Elt Ideal) ((c : Thread nD τ).loc b))

/-- The zero offset of a rank-two window. -/
theorem off_zero {n : ℕ} (h : n = 2) : (![0, 0] : Fin 2 → ℕ) = fun _ => 0 := by
  funext a; match a with | ⟨0, _⟩ => rfl | ⟨1, _⟩ => rfl

/-- The corner entry of a small operand, as the bodies load it. -/
theorem ld_corner (x1 : Vec Ideal S8x128 .f32) (inb : ∀ a, (![0, 0] : Fin 2 → ℕ) a + S1x1.size a ≤ S8x128.size a) :
    View.ld x1 (Rect.unit (s := S8x128) ![0, 0] S1x1.size inb) (ix2 0 0 : S1x1.Idx) = x1 (ix2 0 0) := by
  show x1 ((Rect.unit (s := S8x128) ![0, 0] S1x1.size inb).idx (ix2 0 0 : S1x1.Idx)) = _
  refine congrArg x1 (funext fun a => Fin.ext ?_)
  match a with
  | ⟨0, _⟩ => rfl
  | ⟨1, _⟩ => rfl

/-- The body's block of codes, entry by entry. -/
theorem out1_2_apply (x0 : Vec Ideal S256x8192 .bf16) (x1 : Vec Ideal S8x128 .f32) (i : S256x8192.Idx) :
    out1_2 x0 x1 i = code (x0 i) (x1 (ix2 0 0)) := by
  unfold out1_2
  rw [View.canon_unit_zero (S := S256x8192) (off_zero rfl), k1_pay1_apply, View.ld_unit_zero (S := S256x8192) (off_zero rfl)]
  exact congrArg (code (x0 i)) (ld_corner x1 _)

/-- The codes, of the activations `X` (as rows) and the inverse scale `s`. -/
def codesOf (X : Vec Ideal S12288x8192 .bf16) (s : EReal) : Vec Ideal S12288x8192 .fp8e5m2 := fun i => code (X i) s

/-- The blocks read and written at a point are the same rows. -/
theorem index1 : ∀ t : Fin cfg1.N, win1_0.index t (0 : Fin 2) = win1_2.index t (0 : Fin 2) ∧ win1_0.index t (1 : Fin 2) = win1_2.index t (1 : Fin 2)
    ∧ win1_2.index t (0 : Fin 2) = t.val ∧ win1_2.index t (1 : Fin 2) = 0 :=
  (by decide +kernel : ∀ t : Fin grid1.N, _)

/-- What a point writes back is its block of the codes. -/
theorem flushed1_2 (c : Dev nD) (s : EReal) (hs : V c main_v2_1 = fun _ => s) (t : Fin cfg1.N) :
    (dat1 V c).flushed 2 t = ((cfg1.win 2).blk t).view.read (Elt Ideal) (codesOf (V c main_v0) s) := by
  show (cfg1.win 2).cut (grid1.coords t) ((dat1 V c).after 2 t) = _
  rw [after1_2]
  obtain ⟨e0, e1, -, -⟩ := index1 t
  funext y
  refine (out1_2_apply _ _ ((cfg1.win 2).xinj (grid1.coords t) y)).trans ?_
  have h0 : iblk1 V c 0 t ((cfg1.win 2).xinj (grid1.coords t) y) = V c main_v0 (((cfg1.win 2).blk t).view.emb y) := by
    show V c main_v0 (((cfg1.win 0).blk t).view.emb ((cfg1.win 2).xinj (grid1.coords t) y)) = _
    refine congrArg (V c main_v0) ?_
    have hb0 : (((cfg1.win 0).blk t).view.emb ((cfg1.win 2).xinj (grid1.coords t) y) 0).val = win1_0.index t (0 : Fin 2) * 256 + 1 * (y 0).val := rfl
    have hb1 : (((cfg1.win 0).blk t).view.emb ((cfg1.win 2).xinj (grid1.coords t) y) 1).val = win1_0.index t (1 : Fin 2) * 8192 + 1 * (y 1).val := rfl
    have hc0 : (((cfg1.win 2).blk t).view.emb y 0).val = win1_2.index t (0 : Fin 2) * 256 + 1 * (y 0).val := rfl
    have hc1 : (((cfg1.win 2).blk t).view.emb y 1).val = win1_2.index t (1 : Fin 2) * 8192 + 1 * (y 1).val := rfl
    funext a; apply Fin.ext
    match a with
    | ⟨0, _⟩ => exact hb0.trans ((by rw [e0] : _ = _).trans hc0.symm)
    | ⟨1, _⟩ => exact hb1.trans ((by rw [e1] : _ = _).trans hc1.symm)
  have h1 : iblk1 V c 1 t (ix2 0 0) = s := congrFun hs (((cfg1.win 1).blk t).view.emb (ix2 0 0))
  rw [h0, h1]
  rfl

/-- An index of the codes is in a point's block iff each coordinate is in the block's range. -/
theorem mem_blk1_2 (t : Fin cfg1.N) (i : S12288x8192.Idx) : i ∈ ((cfg1.win 2).blk t).view.set ↔
    ∀ a : Fin 2, win1_2.index t a * S256x8192.size a ≤ (i a).val ∧ (i a).val < win1_2.index t a * S256x8192.size a + S256x8192.size a := by
  show i ∈ ((View.whole main_v3).slice (win1_2.rect t)).set ↔ _
  rw [View.set_slice_whole, Rect.mem_set_unit]
  exact Iff.rfl

/-- The codes after the call. -/
theorem final1_2 (c : Dev nD) (s : EReal) (hs : V c main_v2_1 = fun _ => s) :
    (dat1 V c).arrAt 2 cfg1.N = codesOf (V c main_v0) s := by
  refine (dat1 V c).arrAt_eq_of_cover 2 _ (fun t _ => flushed1_2 V c s hs t) (fun i => ?_)
  have hN : cfg1.N = 48 := N_1
  have h0 : (i 0).val < 12288 := (i 0).isLt
  have h1 : (i 1).val < 8192 := (i 1).isLt
  have ht : (i 0).val / 256 < cfg1.N := by omega
  refine ⟨⟨(i 0).val / 256, ht⟩, flush1_2 _, ?_⟩
  rw [mem_blk1_2]
  obtain ⟨-, -, e0, e1⟩ := index1 ⟨(i 0).val / 256, ht⟩
  dsimp only at e0
  intro b
  match b with
  | ⟨0, _⟩ => show win1_2.index _ (0 : Fin 2) * 256 ≤ (i 0).val ∧ (i 0).val < win1_2.index _ (0 : Fin 2) * 256 + 256; omega
  | ⟨1, _⟩ => show win1_2.index _ (1 : Fin 2) * 8192 ≤ (i 1).val ∧ (i 1).val < win1_2.index _ (1 : Fin 2) * 8192 + 8192; omega

end Cert.KernelIdeal.Run

end
-- ==== Proof.KernelIdealProductValue.lean ====
/- The third call on extended reals: with the scale `s` in every entry of its small operand, it leaves at row `r` and column
   `n` the product of row `r` of the codes with row `n` of the weights, times `s`, times the scale of column `n`. -/
module

public import proofs.«01_k».proof.Proof.KernelIdealCodesValue

@[expose] public section

set_option maxRecDepth 16384

noncomputable section

namespace Cert.KernelIdeal.Run

open Cert.KernelIdeal Cert.KernelIdeal.Gen
open Idealize.ShloMosaic hiding ix2
open Idealize.ShloMosaic.TcCoe Idealize.ShloMosaic.ValueIdx
open Idealize.SL.RA
open Idealize.ShloMosaic.Pipeline (Dat Cfg Window BodyObligation cellOf)

variable (V : (c : Dev nD) → (b : Ref sig .tc) → Buf (Elt Ideal) ((c : Thread nD τ).loc b))

/-- The body's block, entry by entry. -/
theorem out2_4_apply (x0 : Vec Ideal S1024x8192 .fp8e5m2) (x1 : Vec Ideal S1024x8192 .fp8e4m3) (x2 : Vec Ideal S1x1024 .f32)
    (x3 : Vec Ideal S8x128 .f32) (r n : Fin 1024) :
    out2_4 x0 x1 x2 x3 (ix2 r n) = (∑ k : Fin 8192, x0 (ix2 r k) * x1 (ix2 n k)) * x3 (ix2 0 0) * x2 (ix2 0 n) := by
  unfold out2_4
  rw [View.canon_unit_zero (S := S1024x1024) (off_zero rfl), k2_pay1_apply, View.ld_unit_zero (S := S1024x8192) (off_zero rfl),
    View.ld_unit_zero (S := S1024x8192) (off_zero rfl), View.ld_unit_zero (S := S1x1024) (off_zero rfl)]
  exact congrArg (fun z : EReal => (∑ k : Fin 8192, x0 (ix2 r k) * x1 (ix2 n k)) * z * x2 (ix2 0 n)) (ld_corner x3 _)

/-- The result at row `r`, column `n`. -/
def entry (C : Vec Ideal S12288x8192 .fp8e5m2) (W : Vec Ideal S32768x8192 .fp8e4m3) (WS : Vec Ideal S1x32768 .f32) (s : EReal)
    (r : Fin 12288) (n : Fin 32768) : EReal :=
  (∑ k : Fin 8192, C (ix2 r k) * W (ix2 n k)) * s * WS (ix2 0 n)

/-- The result, of the codes, the weights, their scales and the activations' scale. -/
def productOf (C : Vec Ideal S12288x8192 .fp8e5m2) (W : Vec Ideal S32768x8192 .fp8e4m3) (WS : Vec Ideal S1x32768 .f32) (s : EReal) :
    Vec Ideal S12288x32768 .bf16 := fun i => entry C W WS s (⟨(i 0).val, (i 0).isLt⟩ : Fin 12288) (⟨(i 1).val, (i 1).isLt⟩ : Fin 32768)

/-- Point `t` is at row block `t / 32` and column block `t % 32`; it reads those blocks of the operands. -/
theorem index2 : ∀ t : Fin cfg2.N, win2_4.index t (0 : Fin 2) = t.val / 32 ∧ win2_4.index t (1 : Fin 2) = t.val % 32
    ∧ win2_0.index t (0 : Fin 2) = t.val / 32 ∧ win2_0.index t (1 : Fin 2) = 0
    ∧ win2_1.index t (0 : Fin 2) = t.val % 32 ∧ win2_1.index t (1 : Fin 2) = 0
    ∧ win2_2.index t (0 : Fin 2) = 0 ∧ win2_2.index t (1 : Fin 2) = t.val % 32 :=
  (by decide +kernel : ∀ t : Fin grid2.N, _)

/-- The codes' block at a point. -/
theorem iblk2_0_apply (c : Dev nD) (t : Fin cfg2.N) (r : Fin 1024) (k : Fin 8192) (R : Fin 12288) (hR : R.val = t.val / 32 * 1024 + r.val) :
    iblk2 V c 0 t (ix2 r k) = V c main_v3 (ix2 R k : S12288x8192.Idx) := by
  obtain ⟨-, -, e0, e1, -, -, -, -⟩ := index2 t
  show V c main_v3 (((cfg2.win 0).blk t).view.emb (ix2 r k)) = _
  refine congrArg (V c main_v3) ?_
  have hb0 : (((cfg2.win 0).blk t).view.emb (ix2 r k) 0).val = win2_0.index t (0 : Fin 2) * 1024 + 1 * r.val := rfl
  have hb1 : (((cfg2.win 0).blk t).view.emb (ix2 r k) 1).val = win2_0.index t (1 : Fin 2) * 8192 + 1 * k.val := rfl
  funext a; apply Fin.ext
  match a with
  | ⟨0, _⟩ => exact hb0.trans (by show _ = R.val; rw [e0]; omega)
  | ⟨1, _⟩ => exact hb1.trans (by show _ = k.val; rw [e1]; omega)

/-- The weights' block at a point. -/
theorem iblk2_1_apply (c : Dev nD) (t : Fin cfg2.N) (n : Fin 1024) (k : Fin 8192) (N : Fin 32768) (hN : N.val = t.val % 32 * 1024 + n.val) :
    iblk2 V c 1 t (ix2 n k) = V c main_arg1 (ix2 N k : S32768x8192.Idx) := by
  obtain ⟨-, -, -, -, e0, e1, -, -⟩ := index2 t
  show V c main_arg1 (((cfg2.win 1).blk t).view.emb (ix2 n k)) = _
  refine congrArg (V c main_arg1) ?_
  have hb0 : (((cfg2.win 1).blk t).view.emb (ix2 n k) 0).val = win2_1.index t (0 : Fin 2) * 1024 + 1 * n.val := rfl
  have hb1 : (((cfg2.win 1).blk t).view.emb (ix2 n k) 1).val = win2_1.index t (1 : Fin 2) * 8192 + 1 * k.val := rfl
  funext a; apply Fin.ext
  match a with
  | ⟨0, _⟩ => exact hb0.trans (by show _ = N.val; rw [e0]; omega)
  | ⟨1, _⟩ => exact hb1.trans (by show _ = k.val; rw [e1]; omega)

/-- The columns' scales at a point. -/
theorem iblk2_2_apply (c : Dev nD) (t : Fin cfg2.N) (n : Fin 1024) (N : Fin 32768) (hN : N.val = t.val % 32 * 1024 + n.val) :
    iblk2 V c 2 t (ix2 (0 : Fin 1) n) = V c main_v1 (ix2 (0 : Fin 1) N : S1x32768.Idx) := by
  obtain ⟨-, -, -, -, -, -, e0, e1⟩ := index2 t
  show V c main_v1 (((cfg2.win 2).blk t).view.emb (ix2 (0 : Fin 1) n)) = _
  refine congrArg (V c main_v1) ?_
  have hb0 : (((cfg2.win 2).blk t).view.emb (ix2 (0 : Fin 1) n) 0).val = win2_2.index t (0 : Fin 2) * 1 + 1 * 0 := rfl
  have hb1 : (((cfg2.win 2).blk t).view.emb (ix2 (0 : Fin 1) n) 1).val = win2_2.index t (1 : Fin 2) * 1024 + 1 * n.val := rfl
  funext a; apply Fin.ext
  match a with
  | ⟨0, _⟩ => exact hb0.trans (by show _ = 0; rw [e0])
  | ⟨1, _⟩ => exact hb1.trans (by show _ = N.val; rw [e1]; omega)

/-- What a point writes back is its block of the product. -/
theorem flushed2_4 (c : Dev nD) (s : EReal) (hs : V c main_v2_0 = fun _ => s) (t : Fin cfg2.N) :
    (dat2 V c).flushed 4 t = ((cfg2.win 4).blk t).view.read (Elt Ideal) (productOf (V c main_v3) (V c main_arg1) (V c main_v1) s) := by
  show (cfg2.win 4).cut (grid2.coords t) ((dat2 V c).after 4 t) = _
  rw [after2_4]
  obtain ⟨e0, e1, -⟩ := index2 t
  have htN : t.val < 384 := lt_of_lt_of_eq t.isLt (show cfg2.N = 384 from N_2)
  funext y
  have hy0 : (y 0).val < 1024 := (y 0).isLt
  have hy1 : (y 1).val < 1024 := (y 1).isLt
  have hx : (cfg2.win 4).xinj (grid2.coords t) y = (ix2 (⟨(y 0).val, hy0⟩ : Fin 1024) (⟨(y 1).val, hy1⟩ : Fin 1024) : S1024x1024.Idx) := by
    funext a; apply Fin.ext
    match a with
    | ⟨0, _⟩ => rfl
    | ⟨1, _⟩ => rfl
  show out2_4 _ _ _ _ ((cfg2.win 4).xinj (grid2.coords t) y) = productOf _ _ _ _ (((cfg2.win 4).blk t).view.emb y)
  have hc0 : (((cfg2.win 4).blk t).view.emb y 0).val = win2_4.index t (0 : Fin 2) * 1024 + 1 * (y 0).val := rfl
  have hc1 : (((cfg2.win 4).blk t).view.emb y 1).val = win2_4.index t (1 : Fin 2) * 1024 + 1 * (y 1).val := rfl
  rw [e0] at hc0
  rw [e1] at hc1
  have hR : t.val / 32 * 1024 + (y 0).val < 12288 := by omega
  have hN : t.val % 32 * 1024 + (y 1).val < 32768 := by omega
  have hr : productOf (V c main_v3) (V c main_arg1) (V c main_v1) s (((cfg2.win 4).blk t).view.emb y)
      = entry (V c main_v3) (V c main_arg1) (V c main_v1) s (⟨t.val / 32 * 1024 + (y 0).val, hR⟩ : Fin 12288) (⟨t.val % 32 * 1024 + (y 1).val, hN⟩ : Fin 32768) := by
    unfold productOf
    exact congrArg₂ (entry (V c main_v3) (V c main_arg1) (V c main_v1) s) (Fin.ext (hc0.trans (by rw [one_mul]))) (Fin.ext (hc1.trans (by rw [one_mul])))
  rw [hr, hx, out2_4_apply]
  unfold entry
  have h3 : iblk2 V c 3 t (ix2 0 0) = s := congrFun hs (((cfg2.win 3).blk t).view.emb (ix2 0 0))
  refine congrArg₂ (· * ·) (congrArg₂ (· * ·) (Finset.sum_congr rfl fun k _ => congrArg₂ (· * ·) ?_ ?_) h3) ?_
  · exact iblk2_0_apply V c t _ k _ rfl
  · exact iblk2_1_apply V c t _ k _ rfl
  · exact iblk2_2_apply V c t _ _ rfl

/-- An index of the result is in a point's block iff each coordinate is in the block's range. -/
theorem mem_blk2_4 (t : Fin cfg2.N) (i : S12288x32768.Idx) : i ∈ ((cfg2.win 4).blk t).view.set ↔
    ∀ a : Fin 2, win2_4.index t a * S1024x1024.size a ≤ (i a).val ∧ (i a).val < win2_4.index t a * S1024x1024.size a + S1024x1024.size a := by
  show i ∈ ((View.whole main_v4).slice (win2_4.rect t)).set ↔ _
  rw [View.set_slice_whole, Rect.mem_set_unit]
  exact Iff.rfl

/-- The result after the call. -/
theorem final2_4 (c : Dev nD) (s : EReal) (hs : V c main_v2_0 = fun _ => s) :
    (dat2 V c).arrAt 4 cfg2.N = productOf (V c main_v3) (V c main_arg1) (V c main_v1) s := by
  refine (dat2 V c).arrAt_eq_of_cover 4 _ (fun t _ => flushed2_4 V c s hs t) (fun i => ?_)
  have hN : cfg2.N = 384 := N_2
  have h0 : (i 0).val < 12288 := (i 0).isLt
  have h1 : (i 1).val < 32768 := (i 1).isLt
  have ht : (i 0).val / 1024 * 32 + (i 1).val / 1024 < cfg2.N := by omega
  refine ⟨⟨(i 0).val / 1024 * 32 + (i 1).val / 1024, ht⟩, flush2_4 _, ?_⟩
  rw [mem_blk2_4]
  obtain ⟨e0, e1, -⟩ := index2 ⟨(i 0).val / 1024 * 32 + (i 1).val / 1024, ht⟩
  dsimp only at e0 e1
  intro b
  match b with
  | ⟨0, _⟩ => show win2_4.index _ (0 : Fin 2) * 1024 ≤ (i 0).val ∧ (i 0).val < win2_4.index _ (0 : Fin 2) * 1024 + 1024; omega
  | ⟨1, _⟩ => show win2_4.index _ (1 : Fin 2) * 1024 ≤ (i 1).val ∧ (i 1).val < win2_4.index _ (1 : Fin 2) * 1024 + 1024; omega

end Cert.KernelIdeal.Run

end
-- ==== Proof.KernelIdealValue.lean ====
/- What the whole program leaves on extended reals: the buffers between the calls, in terms of the arguments and of the largest
   absolute value of the activations. -/
module

public import proofs.«01_k».proof.Proof.KernelIdealRun
public import proofs.«01_k».proof.Proof.KernelIdealAmaxValue
public import proofs.«01_k».proof.Proof.KernelIdealCodesValue
public import proofs.«01_k».proof.Proof.KernelIdealProductValue

@[expose] public section

set_option maxRecDepth 16384

noncomputable section

namespace Cert.KernelIdeal.Run

open Cert.KernelIdeal Cert.KernelIdeal.Gen
open Idealize.ShloMosaic hiding ix2 ix3
open Idealize.ShloMosaic.TcCoe Cert.Scale Cert.Maxima Idealize.ShloMosaic.ValueIdx
open Idealize.SL.Sem

variable (m : (ℓ : Loc nD τ sig) → Buf (Elt Ideal) ℓ) (ρ : Dev nD → PrngReg)

/-- The activations, the weights and the columns' scales at launch. -/
abbrev argX (c : Dev nD) : Vec Ideal S3x4096x8192 .bf16 := m ((c : Thread nD τ).loc main_arg0)
abbrev argW (c : Dev nD) : Vec Ideal S32768x8192 .fp8e4m3 := m ((c : Thread nD τ).loc main_arg1)
abbrev argS (c : Dev nD) : Vec Ideal S32768 .f32 := m ((c : Thread nD τ).loc main_arg2)

/-- The activations as rows, and the columns' scales as one row. -/
abbrev rowsX (c : Dev nD) : Vec Ideal S12288x8192 .bf16 := shapeCast S12288x8192 (argX m c) shapeCasts_S3x4096x8192_S12288x8192
abbrev rowS (c : Dev nD) : Vec Ideal S1x32768 .f32 := shapeCast S1x32768 (argS m c) shapeCasts_S32768_S1x32768

/-! ## Before the calls -/

theorem W1_v0 (c : Dev nD) : W1 m ρ c (Proc.devRef .tc main_v0) = rowsX m c := by
  show StableHlo.after hostOps0 (W0 m ρ c) (Proc.devRef .tc main_v0) = _
  rw [StableHlo.after_cons, StableHlo.after_cons, StableHlo.after_nil, StableHlo.reshape_result_ne _ _ _ _ _ ?_, StableHlo.reshape_result]
  all_goals first | rfl | decide
theorem W1_v1 (c : Dev nD) : W1 m ρ c (Proc.devRef .tc main_v1) = rowS m c := by
  show StableHlo.after hostOps0 (W0 m ρ c) (Proc.devRef .tc main_v1) = _
  rw [StableHlo.after_cons, StableHlo.after_cons, StableHlo.after_nil, StableHlo.reshape_result, StableHlo.reshape_result_ne _ _ _ _ _ ?_]
  all_goals first | rfl | decide

/-! ## After the calls -/

variable (c : Dev nD) (a : EReal) (ha : IsMax a fun p : S3x4096x8192.Idx => FloatOps.absf (F := Ideal) (φ := .bf16) (argX m c p))
include ha

/-- The rows have the same largest absolute value. -/
theorem rows_isMax : IsMax a fun p : S12288x8192.Idx => FloatOps.absf (F := Ideal) (φ := .bf16) (V1 m ρ c main_v0 p) := by
  intro b
  refine (ha b).trans ?_
  rw [show V1 m ρ c main_v0 = rowsX m c from W1_v0 m ρ c]
  exact (Shape.reshapeEquiv shapeCasts_S3x4096x8192_S12288x8192).surjective.forall
    (p := fun i => FloatOps.absf (F := Ideal) (φ := .bf16) (argX m c i) ≤ b)

/-- The scale and the inverse scale, after the first call. -/
abbrev sc (a : EReal) : EReal := kScale (a * FloatOps.ofBits (F := Ideal) .f32 0x37924925#32)
abbrev inv (a : EReal) : EReal := kInv (a * FloatOps.ofBits (F := Ideal) .f32 0x37924925#32)

theorem W2_scale : W2 m ρ c (Proc.devRef .tc main_v2_0) = fun _ => sc a :=
  (W2_arr m ρ c 1).trans (final0_1 (V1 m ρ) c a (rows_isMax m ρ c a ha))
theorem W2_inv : W2 m ρ c (Proc.devRef .tc main_v2_1) = fun _ => inv a :=
  (W2_arr m ρ c 2).trans (final0_2 (V1 m ρ) c a (rows_isMax m ρ c a ha))
omit ha in
theorem W2_rows : W2 m ρ c (Proc.devRef .tc main_v0) = rowsX m c :=
  (W2_of m ρ c main_v0 (by decide)).trans (W1_v0 m ρ c)

/-- The codes, after the second call. -/
theorem W3_codes : W3 m ρ c (Proc.devRef .tc main_v3) = codesOf (rowsX m c) (inv a) :=
  (W3_arr m ρ c 2).trans ((final1_2 (V2 m ρ) c (inv a) (W2_inv m ρ c a ha)).trans
    (congrArg (fun X => codesOf X (inv a)) (W2_rows m ρ c)))
theorem W3_scale : W3 m ρ c (Proc.devRef .tc main_v2_0) = fun _ => sc a :=
  (W3_of m ρ c main_v2_0 (by decide)).trans (W2_scale m ρ c a ha)
omit ha in
theorem W3_rowS : W3 m ρ c (Proc.devRef .tc main_v1) = rowS m c :=
  (W3_of m ρ c main_v1 (by decide)).trans ((W2_of m ρ c main_v1 (by decide)).trans (W1_v1 m ρ c))
omit ha in
theorem W3_weights : W3 m ρ c (Proc.devRef .tc main_arg1) = argW m c := W3_args m ρ c main_arg1 (by decide)

/-- The result, after the third call. -/
theorem W4_result : W4 m ρ c (Proc.devRef .tc main_v4) = productOf (codesOf (rowsX m c) (inv a)) (argW m c) (rowS m c) (sc a) := by
  refine (W4_arr m ρ c 4).trans ((final2_4 (V3 m ρ) c (sc a) (W3_scale m ρ c a ha)).trans ?_)
  rw [show V3 m ρ c main_v3 = codesOf (rowsX m c) (inv a) from W3_codes m ρ c a ha, show V3 m ρ c main_arg1 = argW m c from W3_weights m ρ c,
    show V3 m ρ c main_v1 = rowS m c from W3_rowS m ρ c]
theorem W4_codes : W4 m ρ c (Proc.devRef .tc main_v3) = codesOf (rowsX m c) (inv a) :=
  (W4_of m ρ c main_v3 (by decide)).trans (W3_codes m ρ c a ha)
theorem W4_scale : W4 m ρ c (Proc.devRef .tc main_v2_0) = fun _ => sc a :=
  (W4_of m ρ c main_v2_0 (by decide)).trans (W3_scale m ρ c a ha)

/-! ## The three results -/

theorem W5_result : W5 m ρ c (Proc.devRef .tc main_v5)
    = shapeCast S3x4096x32768 (productOf (codesOf (rowsX m c) (inv a)) (argW m c) (rowS m c) (sc a)) shapeCasts_S12288x32768_S3x4096x32768 := by
  show StableHlo.after hostOps3 (W4 m ρ c) (Proc.devRef .tc main_v5) = _
  simp only [StableHlo.after_cons, StableHlo.after_nil]
  rw [StableHlo.reshape_result_ne _ _ _ _ _ ?_, StableHlo.reshape_result_ne _ _ _ _ _ ?_,
    StableHlo.unary_result_ne _ _ _ _ ?_, StableHlo.reshape_result_ne _ _ _ _ _ ?_, StableHlo.reshape_result,
    W4_result m ρ c a ha]
  all_goals first | rfl | decide
theorem W5_codes : W5 m ρ c (Proc.devRef .tc main_v6)
    = shapeCast S3x4096x8192 (codesOf (rowsX m c) (inv a)) shapeCasts_S12288x8192_S3x4096x8192 := by
  show StableHlo.after hostOps3 (W4 m ρ c) (Proc.devRef .tc main_v6) = _
  simp only [StableHlo.after_cons, StableHlo.after_nil]
  rw [StableHlo.reshape_result_ne _ _ _ _ _ ?_, StableHlo.reshape_result_ne _ _ _ _ _ ?_,
    StableHlo.unary_result_ne _ _ _ _ ?_, StableHlo.reshape_result, StableHlo.reshape_result_ne _ _ _ _ _ ?_,
    W4_codes m ρ c a ha]
  all_goals first | rfl | decide
theorem W5_scale : W5 m ρ c (Proc.devRef .tc main_v9) = fun _ => sc a := by
  show StableHlo.after hostOps3 (W4 m ρ c) (Proc.devRef .tc main_v9) = _
  simp only [StableHlo.after_cons, StableHlo.after_nil]
  rw [StableHlo.reshape_result, StableHlo.reshape_result, StableHlo.unary_result, StableHlo.reshape_result_ne _ _ _ _ _ ?_,
    StableHlo.reshape_result_ne _ _ _ _ _ ?_, W4_scale m ρ c a ha]
  all_goals first | rfl | decide

end Cert.KernelIdeal.Run

end
-- ==== Proof.ReferenceExponent.lean ====
/- The reference's exponent on extended reals, from the largest absolute value. -/
module

public import proofs.«01_k».proof.Proof.Gen.ReferenceIdeal.Skeleton
public import proofs.«01_k».proof.Proof.ScaleMath
public import proofs.«01_k».proof.Proof.Maxima
public import Idealize.ShloMosaic.Lib.Pipeline.Value

@[expose] public section

set_option maxRecDepth 16384

noncomputable section

namespace Cert.ReferenceIdeal.Gen

open Cert.ReferenceIdeal
open Idealize.ShloMosaic hiding ix2 ix3
open Cert.Scale Cert.Maxima Idealize.ShloMosaic.ValueIdx

/-! ## The exponent -/

/-- The largest absolute value, as the reference reduces it. -/
def top (v0 : Vec Ideal S3x4096x8192 .bf16) : FVec Ideal S1 .f32 :=
  multiReduction .maximumf [1, 2, 3] S1 (shapeCast S1x3x4096x8192 (absf (k0_pay2 v0) : FVec Ideal S3x4096x8192 .f32) shapeCasts_S3x4096x8192_S1x3x4096x8192)
    0xFF800000#32 reduces_S1x3x4096x8192_S1 (.inl rfl) rfl

/-- A one-entry vector has one index. -/
theorem one_idx (k j : S1.Idx) : k = j := funext fun a => match a with | ⟨0, _⟩ => Subsingleton.elim (α := Fin 1) _ _

/-- It is the largest absolute value of the activations. -/
theorem top_isMax (v0 : Vec Ideal S3x4096x8192 .bf16) (j : S1.Idx) :
    IsMax (top v0 j) fun p : S3x4096x8192.Idx => FloatOps.absf (F := Ideal) (φ := .bf16) (v0 p) := by
  intro b
  unfold top
  refine (multiReduction_le _ _ _ _ _ neg_inf_f32 j b).trans ?_
  constructor
  · intro h
    exact (shapeCast_le _ _ b).1 fun i => h i (one_idx _ _)
  · intro h i _
    exact (shapeCast_le _ _ b).2 h i

/-- The number of powers of two at most the one entry of `v9`, as the reference counts it. -/
def countOf (v9 : FVec Ideal S1x1x1 .f32) : FVec Ideal S1 .f32 :=
  multiReduction .add [1, 2, 3] S1
    (shapeCast S1x1x1x256 (sitofp .f32 (extui 32 (cmpf .ole
      (exp2 (sitofp .f32 (subi (iota .tc S1x1x256 32 [2] iota_S1x1x256_d2_w32) (broadcast S1x1x256 126#32))) : FVec Ideal S1x1x256 .f32)
      (broadcastTo S1x1x256 v9 broadcasts_S1x1x1_S1x1x256)) natLt_1_32) : FVec Ideal S1x1x256 .f32)
      shapeCasts_S1x1x256_S1x1x1x256)
    0x00000000#32 reduces_S1x1x1x256_S1 (.inl rfl) rfl

/-- The indices of the vector of powers. -/
def powIdx : S1x1x256.Idx ≃ Fin 256 where
  toFun i := ⟨(i 2).val, (i 2).isLt⟩
  invFun k := (ix3 (0 : Fin 1) (0 : Fin 1) k : S1x1x256.Idx)
  left_inv i := by
    funext a
    match a with
    | ⟨0, _⟩ => exact Subsingleton.elim (α := Fin 1) _ _
    | ⟨1, _⟩ => exact Subsingleton.elim (α := Fin 1) _ _
    | ⟨2, _⟩ => rfl
  right_inv k := rfl

/-- A sum over all the reduced axes is the sum over the indices. -/
theorem sum_all (u : FVec Ideal S1x1x1x256 .f32) (j : S1.Idx) :
    multiReduction .add [1, 2, 3] S1 u 0x00000000#32 reduces_S1x1x1x256_S1 (.inl rfl) rfl j = ∑ i : S1x1x1x256.Idx, u i := by
  show ∑ i ∈ Finset.univ.filter (fun i => reduces_S1x1x1x256_S1.drop i = j), u i = _
  refine Finset.sum_congr (Finset.filter_true_of_mem fun i _ => one_idx _ _) fun _ _ => rfl

theorem countOf_eq (v : EReal) (j : S1.Idx) : countOf (fun _ => v) j = rCount v := by
  unfold countOf
  refine (sum_all _ j).trans ?_
  have h := Equiv.sum_comp (Shape.reshapeEquiv shapeCasts_S1x1x256_S1x1x1x256)
    (fun i : S1x1x256.Idx => FloatOps.sitofp (F := Ideal) .f32 ((FloatOps.cmpf (F := Ideal) (φ := .f32) .ole (rPow (powIdx i)) v).setWidth 32))
  refine Eq.trans (Finset.sum_congr rfl fun i _ => ?_) (h.trans ?_)
  · generalize hq : Shape.reshapeEquiv shapeCasts_S1x1x256_S1x1x1x256 i = q
    show (sitofp .f32 (extui 32 (cmpf .ole (exp2 (sitofp .f32 (subi (iota .tc S1x1x256 32 [2] iota_S1x1x256_d2_w32) (broadcast S1x1x256 126#32))) : FVec Ideal S1x1x256 .f32)
      (broadcastTo S1x1x256 ((fun _ => v) : FVec Ideal S1x1x1 .f32) broadcasts_S1x1x1_S1x1x256)) natLt_1_32) : FVec Ideal S1x1x256 .f32)
      (Shape.reshapeEquiv shapeCasts_S1x1x256_S1x1x1x256 i) = _
    rw [hq]
    have hi : iota .tc S1x1x256 32 [2] iota_S1x1x256_d2_w32 q = BitVec.ofNat 32 (powIdx q).val := by
      show BitVec.ofNat 32 (0 * 256 + (q 2).val) = _
      rw [Nat.zero_mul, Nat.zero_add]; rfl
    unfold rPow
    rw [← hi]
    rfl
  · exact Equiv.sum_comp powIdx (fun k : Fin 256 => FloatOps.sitofp (F := Ideal) .f32 ((FloatOps.cmpf (F := Ideal) (φ := .f32) .ole (rPow k) v).setWidth 32))

/-- The exponent from the reduced maximum. -/
def expoOf (T : FVec Ideal S1 .f32) : FVec Ideal S1x1x1 .f32 :=
  select
    (cmpf .oeq (broadcast S1x1x1 (extractAt ![0, 0, 0, 0] (shapeCast S1x1x1x1 T shapeCasts_S1_S1x1x1x1) inpos_S1x1x1x1_p0_0_0_0) : FVec Ideal S1x1x1 .f32)
      (broadcast S1x1x1 (Scalar.ofBits .f32 0x00000000#32)))
    (broadcast S1x1x1 (Scalar.ofBits .f32 0x00000000#32) : FVec Ideal S1x1x1 .f32)
    (subf (broadcast S1x1x1 (extractAt ![0, 0, 0, 0] (shapeCast S1x1x1x1
        (countOf (mulf (broadcast S1x1x1 (extractAt ![0, 0, 0, 0] (shapeCast S1x1x1x1 T shapeCasts_S1_S1x1x1x1) inpos_S1x1x1x1_p0_0_0_0))
          (broadcast S1x1x1 (Scalar.ofBits .f32 0x37924925#32)))) shapeCasts_S1_S1x1x1x1) inpos_S1x1x1x1_p0_0_0_0))
      (broadcast S1x1x1 (Scalar.ofBits .f32 0x42FC0000#32)))

theorem k0_pay3_expo (v0 : Vec Ideal S3x4096x8192 .bf16) : k0_pay3 v0 = expoOf (top v0) := by
  unfold k0_pay3 expoOf countOf top
  rfl

theorem expoOf_const (a : EReal) : expoOf (fun _ => a) = fun _ => rE a := by
  have hc : countOf (mulf (broadcast S1x1x1 a : FVec Ideal S1x1x1 .f32) (broadcast S1x1x1 (Scalar.ofBits .f32 0x37924925#32)))
      = fun _ => rCount (a * FloatOps.ofBits (F := Ideal) .f32 0x37924925#32) := by
    have hm : mulf (broadcast S1x1x1 a : FVec Ideal S1x1x1 .f32) (broadcast S1x1x1 (Scalar.ofBits .f32 0x37924925#32))
        = fun _ => a * FloatOps.ofBits (F := Ideal) .f32 0x37924925#32 := rfl
    rw [hm]
    exact funext fun j => countOf_eq _ j
  have h7 : extractAt ![0, 0, 0, 0] (shapeCast S1x1x1x1 ((fun _ => a) : FVec Ideal S1 .f32) shapeCasts_S1_S1x1x1x1) inpos_S1x1x1x1_p0_0_0_0 = a := rfl
  unfold expoOf
  rw [h7, hc]
  rfl

/-- The exponent the reference takes. -/
theorem k0_pay3_eq (v0 : Vec Ideal S3x4096x8192 .bf16) (a : EReal)
    (ha : IsMax a fun p : S3x4096x8192.Idx => FloatOps.absf (F := Ideal) (φ := .bf16) (v0 p)) : k0_pay3 v0 = fun _ => rE a := by
  have ht : top v0 = fun _ => a := funext fun j => (top_isMax v0 j).unique ha
  rw [k0_pay3_expo, ht, expoOf_const]

end Cert.ReferenceIdeal.Gen

end
-- ==== Proof.ReferencePayloads.lean ====
/- The reference's three results on extended reals, entry by entry. -/
module

public import proofs.«01_k».proof.Proof.ReferenceExponent
public import proofs.«01_k».proof.Proof.KernelIdealPayloads
public import Idealize.ShloMosaic.Lib.MatmulPlain

@[expose] public section

set_option maxRecDepth 16384

noncomputable section

namespace Cert.ReferenceIdeal.Gen

open Cert.ReferenceIdeal
open Idealize.ShloMosaic hiding ix2 ix3
open Cert.Scale Cert.Maxima Idealize.ShloMosaic.ValueIdx

/-! ## The results -/

/-- The reference's scale. -/
theorem k0_pay4_eq (v0 : Vec Ideal S3x4096x8192 .bf16) (a : EReal)
    (ha : IsMax a fun p : S3x4096x8192.Idx => FloatOps.absf (F := Ideal) (φ := .bf16) (v0 p)) :
    k0_pay4 v0 = fun _ => FloatOps.exp2 (F := Ideal) (φ := .f32) (rE a) := by
  unfold k0_pay4
  rw [k0_pay3_eq v0 a ha]
  rfl

/-- The reference's codes. -/
theorem k0_pay5_apply (v0 : Vec Ideal S3x4096x8192 .bf16) (a : EReal)
    (ha : IsMax a fun p : S3x4096x8192.Idx => FloatOps.absf (F := Ideal) (φ := .bf16) (v0 p)) (i : S3x4096x8192.Idx) :
    k0_pay5 v0 i = Cert.KernelIdeal.Gen.code (v0 i)
      (FloatOps.exp2 (F := Ideal) (φ := .f32) (FloatOps.ofBits (F := Ideal) .f32 0x00000000#32 - rE a)) := by
  unfold k0_pay5
  rw [k0_pay3_eq v0 a ha]
  rfl

abbrev dot3 : DotDims S3x4096x8192 S32768x8192 S3x4096x32768 := dot_S3x4096x8192_S32768x8192_S3x4096x32768_2_1_01_0_n_n
theorem dot3_rank : dot3.contr.rank = 1 := rfl
theorem dot3_size : dot3.contr.size ⟨0, by rw [dot3_rank]; exact Nat.one_pos⟩ = 8192 := rfl
/-- The product's contraction index as its one coordinate. -/
def dot3Contr : dot3.contr.Idx ≃ Fin 8192 := contrEquiv1 _ 8192 dot3_rank dot3_size

/-- The reference's product, entry by entry. -/
theorem matmul3_apply (prec : Option ContractPrecision) (lhs : FVec Ideal S3x4096x8192 .fp8e5m2) (rhs : FVec Ideal S32768x8192 .fp8e4m3)
    (acc : FVec Ideal S3x4096x32768 .f32) (b : Fin 3) (s : Fin 4096) (n : Fin 32768) :
    FloatOps.matmul dot3 prec lhs rhs acc (ix3 b s n) = acc (ix3 b s n) + ∑ k : Fin 8192, lhs (ix3 b s k) * rhs (ix2 n k) := by
  rw [Ideal.matmul_apply, ← Equiv.sum_comp dot3Contr.symm]
  refine congrArg (acc (ix3 b s n) + ·) (Finset.sum_congr rfl fun k _ => ?_)
  have hk := contrEquiv1_symm_val _ 8192 dot3_rank dot3_size k
  have el : dot3.lhsIdx (ix3 b s n) (dot3Contr.symm k) = ix3 b s k := by
    funext a; apply Fin.ext
    match a with
    | ⟨0, _⟩ => rfl
    | ⟨1, _⟩ => rfl
    | ⟨2, _⟩ => exact hk
  have er : dot3.rhsIdx (ix3 b s n) (dot3Contr.symm k) = ix2 n k := by
    funext a; apply Fin.ext
    match a with
    | ⟨0, _⟩ => rfl
    | ⟨1, _⟩ => exact hk
  rw [el, er]

/-- The reference's first result, entry by entry. -/
theorem k0_pay1_apply (v0 : Vec Ideal S3x4096x8192 .bf16) (w : Vec Ideal S32768x8192 .fp8e4m3) (ws : Vec Ideal S32768 .f32) (a : EReal)
    (ha : IsMax a fun p : S3x4096x8192.Idx => FloatOps.absf (F := Ideal) (φ := .bf16) (v0 p)) (b : Fin 3) (s : Fin 4096) (n : Fin 32768) :
    k0_pay1 (k0_pay6 v0 w) (k0_pay7 v0) ws (ix3 b s n)
      = (∑ k : Fin 8192, k0_pay5 v0 (ix3 b s k) * w (ix2 n k)) * FloatOps.exp2 (F := Ideal) (φ := .f32) (rE a) * ws (ValueIdx.ix1 n) := by
  have h6 : k0_pay6 v0 w (ix3 b s n) = ∑ k : Fin 8192, k0_pay5 v0 (ix3 b s k) * w (ix2 n k) := by
    unfold k0_pay6
    refine (matmul3_apply none (k0_pay5 v0) w _ b s n).trans ?_
    have hz : (constant S3x4096x32768 .f32 0x00000000#32 : FVec Ideal S3x4096x32768 .f32) (ix3 b s n) = 0 := ofBits_zero
    rw [hz, zero_add]
  have h7 : k0_pay7 v0 (ix3 b s n) = FloatOps.exp2 (F := Ideal) (φ := .f32) (rE a) := by
    unfold k0_pay7
    rw [k0_pay4_eq v0 a ha]
    rfl
  have h8 : broadcastTo S3x4096x32768 (shapeCast S1x1x32768 ws shapeCasts_S32768_S1x1x32768) broadcasts_S1x1x32768_S3x4096x32768 (ix3 b s n)
      = ws (ValueIdx.ix1 n) := by
    rw [broadcastTo_apply _ broadcasts_S1x1x32768_S3x4096x32768 (ix3 b s n) (ix3 (0 : Fin 1) (0 : Fin 1) n)
      (fun a => by match a with | ⟨0, _⟩ => rfl | ⟨1, _⟩ => rfl | ⟨2, _⟩ => rfl)]
    refine shapeCast_apply ws shapeCasts_S32768_S1x1x32768 _ _ ?_
    rw [Shape.rowMajor_val_one, Shape.rowMajor_val_three]
    show n.val = (0 * 1 + 0) * 32768 + n.val
    omega
  unfold k0_pay1
  show k0_pay6 v0 w (ix3 b s n) * k0_pay7 v0 (ix3 b s n)
    * broadcastTo S3x4096x32768 (shapeCast S1x1x32768 ws shapeCasts_S32768_S1x1x32768) broadcasts_S1x1x32768_S3x4096x32768 (ix3 b s n) = _
  rw [h6, h7, h8]

end Cert.ReferenceIdeal.Gen

end
-- ==== Proof.Precondition.lean ====
/- What the precondition says of the largest absolute value. -/
module

public import proofs.«01_k».proof.Proof.Gen.Pre_scale_in_range
public import proofs.«01_k».proof.Proof.ScaleMath
public import proofs.«01_k».proof.Proof.Maxima

@[expose] public section

set_option maxRecDepth 16384

noncomputable section

namespace Cert.Pre_scale_in_range

open Cert.Pre_scale_in_range
open Idealize.ShloMosaic hiding ix2 ix3
open Cert.Scale Cert.Maxima Idealize.ShloMosaic.ValueIdx

/-! ## The precondition -/

/-- The condition on the reduced maximum, as the precondition states it. -/
def condOf (M : FVec Ideal S_ .f32) : IVec S_ 1 :=
  ori (cmpf .oeq M (constant S_ .f32 0x00000000#32))
    (andi (cmpf .oge (mulf M (constant S_ .f32 0x37924925#32)) (constant S_ .f32 0x00800000#32))
      (cmpf .olt (mulf M (constant S_ .f32 0x37924925#32)) (constant S_ .f32 0x7E800000#32)))

theorem bit_or : ∀ p q r : Bool, IntOp.ori (BitVec.ofBool p) (IntOp.andi (BitVec.ofBool q) (BitVec.ofBool r)) = 1#1 → p = true ∨ (q = true ∧ r = true) := by
  decide

theorem condOf_inRange (a : EReal) (j : S_.Idx) (h : condOf (fun _ => a) j = 1#1) : InRange a := by
  have h' := bit_or (decide (a = FloatOps.ofBits (F := Ideal) .f32 0x00000000#32))
    (decide (FloatOps.ofBits (F := Ideal) .f32 0x00800000#32 ≤ a * FloatOps.ofBits (F := Ideal) .f32 0x37924925#32))
    (decide (a * FloatOps.ofBits (F := Ideal) .f32 0x37924925#32 < FloatOps.ofBits (F := Ideal) .f32 0x7E800000#32)) h
  simp only [decide_eq_true_eq] at h'
  rcases h' with h' | h'
  · exact Or.inl (h'.trans ofBits_zero)
  · exact Or.inr h'

/-- Under the precondition the largest absolute value is in the range the scales agree on. -/
theorem inRange_of_pre (x : FVec Ideal S3x4096x8192 .bf16) (w : FVec Ideal S32768x8192 .fp8e4m3) (ws : FVec Ideal S32768 .f32)
    (h : Cert.Pre_scale_in_range.fn (F := Ideal) x w ws = fun _ => 1#1) (a : EReal)
    (ha : IsMax a fun p : S3x4096x8192.Idx => FloatOps.absf (F := Ideal) (φ := .bf16) (x p)) : InRange a := by
  have hM : Host.reduce FloatOps.maximumf (Host.absf (extf .f32 x Facts.bitsLt_bf16_f32 : FVec Ideal S3x4096x8192 .f32))
      (constant S_ .f32 0xFF800000#32 : FVec Ideal S_ .f32) Facts.reducesTo_S3x4096x8192_S_d0_1_2 Facts.h_S_ = fun _ => a := by
    funext j
    refine IsMax.unique (f := fun p : S3x4096x8192.Idx => FloatOps.absf (F := Ideal) (φ := .bf16) (x p)) (fun b => ?_) ha
    refine (hostReduce_le _ _ _ _ neg_inf_f32 j b).trans ?_
    constructor
    · intro h i; exact h i (funext fun q => q.elim0)
    · intro h i _; exact h i
  have h0 := congrFun h (fun q => q.elim0)
  have hf : Cert.Pre_scale_in_range.fn (F := Ideal) x w ws = condOf (Host.reduce FloatOps.maximumf (Host.absf (extf .f32 x Facts.bitsLt_bf16_f32 : FVec Ideal S3x4096x8192 .f32))
      (constant S_ .f32 0xFF800000#32 : FVec Ideal S_ .f32) Facts.reducesTo_S3x4096x8192_S_d0_1_2 Facts.h_S_) := by
    unfold Cert.Pre_scale_in_range.fn condOf
    rfl
  rw [hf, hM] at h0
  exact condOf_inRange a _ h0

end Cert.Pre_scale_in_range

end
-- ==== Proof.Results.lean ====
/- The kernel's three results are the reference's, given activations the scale of which is in range. -/
module

public import proofs.«01_k».proof.Proof.KernelIdealValue
public import proofs.«01_k».proof.Proof.ReferencePayloads
public import proofs.«01_k».proof.Proof.Precondition

@[expose] public section

set_option maxRecDepth 16384

noncomputable section

namespace Cert.Results

open Cert.KernelIdeal Cert.KernelIdeal.Gen Cert.KernelIdeal.Run
open Idealize.ShloMosaic hiding ix2 ix3
open Idealize.ShloMosaic.TcCoe Cert.Scale Cert.Maxima Idealize.ShloMosaic.ValueIdx
open Idealize.SL.Sem

/-! ## The reshapes, entry by entry -/

/-- Entry (b, s, k) of the activations is in row `4096 b + s`. -/
abbrev row (b : Fin 3) (s : Fin 4096) : Fin 12288 := ⟨b.val * 4096 + s.val, by omega⟩

theorem rows_apply {α : Type} (x : S3x4096x8192.Idx → α) (h : S3x4096x8192.ShapeCasts S12288x8192) (b : Fin 3) (s : Fin 4096) (k : Fin 8192) :
    shapeCast S12288x8192 x h (ix2 (row b s) k) = x (ix3 b s k) := by
  refine shapeCast_apply x h _ _ ?_
  rw [Shape.rowMajor_val_three, Shape.rowMajor_val_two]
  rfl
theorem columns_apply {α : Type} (v : S32768.Idx → α) (h : S32768.ShapeCasts S1x32768) (n : Fin 32768) :
    shapeCast S1x32768 v h (ix2 0 n) = v (ValueIdx.ix1 n) := by
  refine shapeCast_apply v h _ _ ?_
  rw [Shape.rowMajor_val_one, Shape.rowMajor_val_two]
  show n.val = 0 * 32768 + n.val
  omega
theorem product_apply {α : Type} (v : S12288x32768.Idx → α) (h : S12288x32768.ShapeCasts S3x4096x32768) (b : Fin 3) (s : Fin 4096) (n : Fin 32768) :
    shapeCast S3x4096x32768 v h (ix3 b s n) = v (ix2 (row b s) n) := by
  refine shapeCast_apply v h _ _ ?_
  rw [Shape.rowMajor_val_three, Shape.rowMajor_val_two]
  rfl
theorem codes_apply {α : Type} (v : S12288x8192.Idx → α) (h : S12288x8192.ShapeCasts S3x4096x8192) (b : Fin 3) (s : Fin 4096) (k : Fin 8192) :
    shapeCast S3x4096x8192 v h (ix3 b s k) = v (ix2 (row b s) k) := by
  refine shapeCast_apply v h _ _ ?_
  rw [Shape.rowMajor_val_three, Shape.rowMajor_val_two]
  rfl

/-! ## The results -/

section
variable (x : Vec Ideal S3x4096x8192 .bf16) (w : Vec Ideal S32768x8192 .fp8e4m3) (ws : Vec Ideal S32768 .f32)
  (a : EReal) (ha : IsMax a fun p : S3x4096x8192.Idx => FloatOps.absf (F := Ideal) (φ := .bf16) (x p)) (hr : InRange a)
include ha hr

/-- The scales agree. -/
theorem scale_eq : (fun _ => sc a : Vec Ideal S1x1x1 .f32) = Cert.ReferenceIdeal.Gen.k0_pay4 x := by
  rw [Cert.ReferenceIdeal.Gen.k0_pay4_eq x a ha]
  exact funext fun _ => (scales_eq a hr).1

/-- The codes agree, entry by entry. -/
theorem code_eq (h : S3x4096x8192.ShapeCasts S12288x8192) (b : Fin 3) (s : Fin 4096) (k : Fin 8192) :
    codesOf (shapeCast S12288x8192 x h) (inv a) (ix2 (row b s) k) = Cert.ReferenceIdeal.Gen.k0_pay5 x (ix3 b s k) := by
  rw [Cert.ReferenceIdeal.Gen.k0_pay5_apply x a ha]
  show code (shapeCast S12288x8192 x h (ix2 (row b s) k)) (inv a) = _
  rw [rows_apply]
  exact congrArg (code (x (ix3 b s k))) (scales_eq a hr).2

/-- The codes agree. -/
theorem codes_eq (h : S3x4096x8192.ShapeCasts S12288x8192) (h' : S12288x8192.ShapeCasts S3x4096x8192) :
    shapeCast S3x4096x8192 (codesOf (shapeCast S12288x8192 x h) (inv a)) h' = Cert.ReferenceIdeal.Gen.k0_pay5 x := by
  funext i
  obtain ⟨b, s, k, rfl⟩ : ∃ (b : Fin 3) (s : Fin 4096) (k : Fin 8192), i = ix3 b s k := ⟨i 0, i 1, i 2, ValueIdx.eq_ix3 i⟩
  rw [codes_apply]
  exact code_eq x a ha hr h b s k

/-- The outputs agree. -/
theorem output_eq (h : S3x4096x8192.ShapeCasts S12288x8192) (h1 : S32768.ShapeCasts S1x32768)
    (h' : S12288x32768.ShapeCasts S3x4096x32768) :
    shapeCast S3x4096x32768 (productOf (codesOf (shapeCast S12288x8192 x h) (inv a)) w (shapeCast S1x32768 ws h1) (sc a)) h'
      = Cert.ReferenceIdeal.Gen.k0_pay1 (Cert.ReferenceIdeal.Gen.k0_pay6 x w) (Cert.ReferenceIdeal.Gen.k0_pay7 x) ws := by
  funext i
  obtain ⟨b, s, n, rfl⟩ : ∃ (b : Fin 3) (s : Fin 4096) (n : Fin 32768), i = ix3 b s n := ⟨i 0, i 1, i 2, ValueIdx.eq_ix3 i⟩
  rw [product_apply, Cert.ReferenceIdeal.Gen.k0_pay1_apply x w ws a ha]
  show entry (codesOf (shapeCast S12288x8192 x h) (inv a)) w (shapeCast S1x32768 ws h1) (sc a) (row b s) n = _
  unfold entry
  rw [columns_apply, show sc a = FloatOps.exp2 (F := Ideal) (φ := .f32) (rE a) from (scales_eq a hr).1]
  simp only [code_eq x a ha hr h b s]
end

/-! ## The kernel leaves what the reference computes -/

section
variable (m : (ℓ : Loc nD τ sig) → Buf (Elt Ideal) ℓ) (ρ : Dev nD → PrngReg) (c : Dev nD)
  (a : EReal) (ha : IsMax a fun p : S3x4096x8192.Idx => FloatOps.absf (F := Ideal) (φ := .bf16) (argX m c p)) (hr : InRange a)
include ha hr

theorem kernel_output : W5 m ρ c (Proc.devRef .tc main_v5)
    = Cert.ReferenceIdeal.Gen.k0_pay1 (Cert.ReferenceIdeal.Gen.k0_pay6 (argX m c) (argW m c)) (Cert.ReferenceIdeal.Gen.k0_pay7 (argX m c)) (argS m c) :=
  (W5_result m ρ c a ha).trans (output_eq (argX m c) (argW m c) (argS m c) a ha hr _ _ _)
theorem kernel_codes : W5 m ρ c (Proc.devRef .tc main_v6) = Cert.ReferenceIdeal.Gen.k0_pay5 (argX m c) :=
  (W5_codes m ρ c a ha).trans (codes_eq (argX m c) a ha hr _ _)
theorem kernel_scale : W5 m ρ c (Proc.devRef .tc main_v9) = Cert.ReferenceIdeal.Gen.k0_pay4 (argX m c) :=
  (W5_scale m ρ c a ha).trans (scale_eq (argX m c) a ha hr)
end

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_scale_in_range
public import proofs.«01_k».proof.Proof.KernelRun
public import proofs.«01_k».proof.Proof.KernelIdealRun
public import proofs.«01_k».proof.Proof.Results
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_scale_in_range.Gen.facts

/-- The kernel leaves the reference's three results, and both leave the arguments. -/
theorem algebraic : Cert.algebraic_KernelIdeal_ReferenceIdeal_pre_scale_in_range := by
  intro m g m' g' hp he
  refine ⟨fun c => Cert.ReferenceIdeal.Value.G3 (Cert.KernelIdeal.Run.argX m c) (Cert.KernelIdeal.Run.argW m c) (Cert.KernelIdeal.Run.argS m c),
    fun c => Cert.ReferenceIdeal.Value.G4 (Cert.KernelIdeal.Run.argX m c) (Cert.KernelIdeal.Run.argW m c) (Cert.KernelIdeal.Run.argS m c),
    fun c => Cert.ReferenceIdeal.Value.G5 (Cert.KernelIdeal.Run.argX m c) (Cert.KernelIdeal.Run.argW m c) (Cert.KernelIdeal.Run.argS m c), ?_, ?_⟩
  · refine (θ_run _ _ _).mono (fun r h c => ?_) (Cert.KernelIdeal.Run.run_all m g)
    have ha := Cert.ReferenceIdeal.Gen.top_isMax (Cert.KernelIdeal.Run.argX m c) (ValueIdx.ix1 0)
    have hr := Cert.Pre_scale_in_range.inRange_of_pre _ _ _ (hp c) _ ha
    exact ⟨(h.1 c _ (Cert.KernelIdeal.Run.mem_uc Cert.KernelIdeal.main_v5 (by decide))).trans (Cert.Results.kernel_output m g c _ ha hr),
      (h.1 c _ (Cert.KernelIdeal.Run.mem_uc Cert.KernelIdeal.main_v6 (by decide))).trans (Cert.Results.kernel_codes m g c _ ha hr),
      (h.1 c _ (Cert.KernelIdeal.Run.mem_uc Cert.KernelIdeal.main_v9 (by decide))).trans (Cert.Results.kernel_scale m g c _ ha hr),
      (h.1 c _ (Cert.KernelIdeal.Run.mem_uc Cert.KernelIdeal.main_arg0 (by decide))).trans (Cert.KernelIdeal.Run.W5_main_arg0 m g c),
      (h.1 c _ (Cert.KernelIdeal.Run.mem_uc Cert.KernelIdeal.main_arg1 (by decide))).trans (Cert.KernelIdeal.Run.W5_main_arg1 m g c),
      (h.1 c _ (Cert.KernelIdeal.Run.mem_uc Cert.KernelIdeal.main_arg2 (by decide))).trans (Cert.KernelIdeal.Run.W5_main_arg2 m g c)⟩
  · refine (θ_run _ _ _).mono (fun r h c => ?_) (Cert.ReferenceIdeal.Value.run m' g')
    have e := he c
    have h := h c
    rw [e.1, e.2.1, e.2.2] at h
    rw [e.1, e.2.1, e.2.2]
    exact h

theorem claim : Cert.Claim := ⟨Cert.Kernel.Gen.facts, Cert.KernelIdeal.Gen.facts, Cert.ReferenceIdeal.Gen.facts, Cert.Pre_scale_in_range.Gen.facts,
  fun m ρ _ => Cert.Kernel.Run.frame m ρ, fun m ρ _ => Cert.KernelIdeal.Run.frame m ρ,
  fun m ρ _ => Cert.KernelIdeal.Run.frame m ρ, fun m ρ _ => Cert.ReferenceIdeal.Gen.frame m ρ,
  fun m ρ _ => Cert.ReferenceIdeal.Gen.frame m ρ, trivial, algebraic⟩

end Cert.Proof

end
